-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S3x512x512 : Shape := ⟨3, ![3, 512, 512]⟩
abbrev S2x512x512 : Shape := ⟨3, ![2, 512, 512]⟩
abbrev S4x2x512x512 : Shape := ⟨4, ![4, 2, 512, 512]⟩
abbrev S4x5x512x512 : Shape := ⟨4, ![4, 5, 512, 512]⟩
abbrev S3 : Shape := ⟨1, ![3]⟩
abbrev S2 : Shape := ⟨1, ![2]⟩
abbrev S4 : Shape := ⟨1, ![4]⟩
abbrev S4x7 : Shape := ⟨2, ![4, 7]⟩
abbrev S_ : Shape := ⟨0, ![]⟩
abbrev S1x512x512 : Shape := ⟨3, ![1, 512, 512]⟩
abbrev S512x512 : Shape := ⟨2, ![512, 512]⟩
abbrev S1x1x512x512 : Shape := ⟨4, ![1, 1, 512, 512]⟩
abbrev S1x1 : Shape := ⟨2, ![1, 1]⟩

abbrev nBuf : Space → Nat
  | .hbm => 5
  | .vmem => 9
  | .smem => 2
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S3x512x512, .f32⟩
  | .local _ .vmem, ⟨1, _⟩ => ⟨S2x512x512, .f32⟩
  | .local _ .vmem, ⟨2, _⟩ => ⟨S4096x512, .bf16⟩
  | .local _ .vmem, ⟨3, _⟩ => ⟨S512x2048, .bf16⟩
  | .local _ .vmem, ⟨4, _⟩ => ⟨S4x2x512x512, .fp8e4m3⟩
  | .local _ .vmem, ⟨5, _⟩ => ⟨S4x2x512x512, .fp8e4m3⟩
  | .local _ .vmem, ⟨6, _⟩ => ⟨S4x2x512x512, .bf16⟩
  | .local _ .vmem, ⟨7, _⟩ => ⟨S4x5x512x512, .bf16⟩
  | .local _ .vmem, ⟨8, _⟩ => ⟨S512x2048, .f32⟩
  | .local _ .smem, ⟨0, _⟩ => ⟨S1, .f32⟩
  | .local _ .smem, ⟨1, _⟩ => ⟨S1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v8 : BitVec 32 := Scalar.addi v2 c7_i32
  let c8_i32_5 : BitVec 32 := 8#32
  let v9 : BitVec 32 := Scalar.remsi v8 c8_i32_5
  let c512_i32 : BitVec 32 := 512#32
  let v10 : BitVec 32 := Scalar.muli v9 c512_i32
  let c0_i32_9 : BitVec 32 := 0#32
  ![v10.toNat, 0]
def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_37 : BitVec 32 := 1#32
  let v43 : BitVec 32 := Scalar.muli v5 c1_i32_37
  let v44 : BitVec 32 := Scalar.addi c0_i32_38 v43
  v44.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_40 : BitVec 32 := 1#32
  let v45 : BitVec 32 := Scalar.muli v7 c1_i32_40
  let v46 : BitVec 32 := Scalar.addi c0_i32_41 v45
  v46.toNat
def k0_off2 (d0 : Dev nD) (c7_i32_43 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v47 : BitVec 32 := Scalar.addi v2 c7_i32_43
  let c8_i32_44 : BitVec 32 := 8#32
  let v48 : BitVec 32 := Scalar.remsi v47 c8_i32_44
  let c512_i32_68 : BitVec 32 := 512#32
  let v73 : BitVec 32 := Scalar.muli v48 c512_i32_68
  let v74 : Index := Scalar.indexCast v73
  let c0_69 : Index := 0#32
  ![v74.toNat, 0]
def k0_dev3 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_94 : BitVec 32 := 1#32
  let v95 : BitVec 32 := Scalar.muli v7 c1_i32_94
  let v96 : BitVec 32 := Scalar.addi c0_i32_95 v95
  v96.toNat
def k0_dev4 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_133 : BitVec 32 := 1#32
  let v132 : BitVec 32 := Scalar.muli v7 c1_i32_133
  let v133 : BitVec 32 := Scalar.addi c0_i32_134 v132
  v133.toNat
def k0_dev5 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_184 : BitVec 32 := 1#32
  let v185 : BitVec 32 := Scalar.muli v5 c1_i32_184
  let v186 : BitVec 32 := Scalar.addi c0_i32_185 v185
  v186.toNat
def k0_dev6 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_217 : BitVec 32 := 1#32
  let v217 : BitVec 32 := Scalar.muli v5 c1_i32_217
  let v218 : BitVec 32 := Scalar.addi c0_i32_218 v217
  v218.toNat
def k0_dev7 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_278 : BitVec 32 := 1#32
  let v271 : BitVec 32 := Scalar.muli v7 c1_i32_278
  let v272 : BitVec 32 := Scalar.addi c0_i32_279 v271
  v272.toNat
def k0_dev8 (d0 : Dev nD) : Nat :=
  let c0_i32_339 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_338 : BitVec 32 := 1#32
  let v325 : BitVec 32 := Scalar.muli v5 c1_i32_338
  let v326 : BitVec 32 := Scalar.addi c0_i32_339 v325
  v326.toNat
def k0_dev9 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_381 : BitVec 32 := 1#32
  let v358 : BitVec 32 := Scalar.muli v7 c1_i32_381
  let v359 : BitVec 32 := Scalar.addi c0_i32_382 v358
  v359.toNat
def k0_dev10 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_424 : BitVec 32 := 1#32
  let v391 : BitVec 32 := Scalar.muli v5 c1_i32_424
  let v392 : BitVec 32 := Scalar.addi c0_i32_425 v391
  v392.toNat
def k0_dev11 (d0 : Dev nD) : Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_485 : BitVec 32 := 1#32
  let v445 : BitVec 32 := Scalar.muli v7 c1_i32_485
  let v446 : BitVec 32 := Scalar.addi c0_i32_486 v445
  v446.toNat
def k0_dev12 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_538 : BitVec 32 := 1#32
  let v491 : BitVec 32 := Scalar.muli v5 c1_i32_538
  let v492 : BitVec 32 := Scalar.addi c0_i32_539 v491
  v492.toNat
def k0_dev13 (d0 : Dev nD) : Nat :=
  let c0_i32_582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_581 : BitVec 32 := 1#32
  let v524 : BitVec 32 := Scalar.muli v7 c1_i32_581
  let v525 : BitVec 32 := Scalar.addi c0_i32_582 v524
  v525.toNat
def k0_dev14 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_624 : BitVec 32 := 1#32
  let v557 : BitVec 32 := Scalar.muli v5 c1_i32_624
  let v558 : BitVec 32 := Scalar.addi c0_i32_625 v557
  v558.toNat
def k0_dev15 (d0 : Dev nD) : Nat :=
  let c0_i32_678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_677 : BitVec 32 := 1#32
  let v602 : BitVec 32 := Scalar.muli v7 c1_i32_677
  let v603 : BitVec 32 := Scalar.addi c0_i32_678 v602
  v603.toNat
def k0_dev16 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_720 : BitVec 32 := 1#32
  let v634 : BitVec 32 := Scalar.muli v5 c1_i32_720
  let v635 : BitVec 32 := Scalar.addi c0_i32_721 v634
  v635.toNat
def k0_dev17 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_763 : BitVec 32 := 1#32
  let v666 : BitVec 32 := Scalar.muli v7 c1_i32_763
  let v667 : BitVec 32 := Scalar.addi c0_i32_764 v666
  v667.toNat
def k0_dev18 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_806 : BitVec 32 := 1#32
  let v698 : BitVec 32 := Scalar.muli v5 c1_i32_806
  let v699 : BitVec 32 := Scalar.addi c0_i32_807 v698
  v699.toNat
def k0_dev19 (d0 : Dev nD) : Nat :=
  let c0_i32_863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_862 : BitVec 32 := 1#32
  let v736 : BitVec 32 := Scalar.muli v7 c1_i32_862
  let v737 : BitVec 32 := Scalar.addi c0_i32_863 v736
  v737.toNat
def k0_dev20 (d0 : Dev nD) : Nat :=
  let c0_i32_919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_918 : BitVec 32 := 1#32
  let v774 : BitVec 32 := Scalar.muli v5 c1_i32_918
  let v775 : BitVec 32 := Scalar.addi c0_i32_919 v774
  v775.toNat
def k0_dev21 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_974 : BitVec 32 := 1#32
  let v812 : BitVec 32 := Scalar.muli v7 c1_i32_974
  let v813 : BitVec 32 := Scalar.addi c0_i32_975 v812
  v813.toNat
def k0_dev22 (d0 : Dev nD) : Nat :=
  let c0_i32_1031 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1030 : BitVec 32 := 1#32
  let v850 : BitVec 32 := Scalar.muli v5 c1_i32_1030
  let v851 : BitVec 32 := Scalar.addi c0_i32_1031 v850
  v851.toNat
def k0_dev23 (d0 : Dev nD) : Nat :=
  let c0_i32_1087 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1086 : BitVec 32 := 1#32
  let v888 : BitVec 32 := Scalar.muli v7 c1_i32_1086
  let v889 : BitVec 32 := Scalar.addi c0_i32_1087 v888
  v889.toNat
def k0_dev24 (d0 : Dev nD) : Nat :=
  let c0_i32_1143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1142 : BitVec 32 := 1#32
  let v926 : BitVec 32 := Scalar.muli v5 c1_i32_1142
  let v927 : BitVec 32 := Scalar.addi c0_i32_1143 v926
  v927.toNat
def k0_dev25 (d0 : Dev nD) : Nat :=
  let c0_i32_1199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1198 : BitVec 32 := 1#32
  let v964 : BitVec 32 := Scalar.muli v7 c1_i32_1198
  let v965 : BitVec 32 := Scalar.addi c0_i32_1199 v964
  v965.toNat
def k0_dev26 (d0 : Dev nD) : Nat :=
  let c0_i32_1255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1254 : BitVec 32 := 1#32
  let v1002 : BitVec 32 := Scalar.muli v5 c1_i32_1254
  let v1003 : BitVec 32 := Scalar.addi c0_i32_1255 v1002
  v1003.toNat
def k0_dev27 (d0 : Dev nD) : Nat :=
  let c0_i32_1311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1310 : BitVec 32 := 1#32
  let v1040 : BitVec 32 := Scalar.muli v7 c1_i32_1310
  let v1041 : BitVec 32 := Scalar.addi c0_i32_1311 v1040
  v1041.toNat
def k0_dev28 (d0 : Dev nD) : Nat :=
  let c0_i32_1367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1366 : BitVec 32 := 1#32
  let v1078 : BitVec 32 := Scalar.muli v5 c1_i32_1366
  let v1079 : BitVec 32 := Scalar.addi c0_i32_1367 v1078
  v1079.toNat
def k0_dev29 (d0 : Dev nD) : Nat :=
  let c0_i32_1423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1422 : BitVec 32 := 1#32
  let v1116 : BitVec 32 := Scalar.muli v7 c1_i32_1422
  let v1117 : BitVec 32 := Scalar.addi c0_i32_1423 v1116
  v1117.toNat
def k0_dev30 (d0 : Dev nD) : Nat :=
  let c0_i32_1479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1478 : BitVec 32 := 1#32
  let v1154 : BitVec 32 := Scalar.muli v5 c1_i32_1478
  let v1155 : BitVec 32 := Scalar.addi c0_i32_1479 v1154
  v1155.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Flow.lean ====
module

public import proofs.«01_k».proof.Proof.Gen.KernelIdeal.Skeleton
public import proofs.«01_k».proof.Proof.Gen.KernelIdeal.Points

/-! The kernel body as a sequence of named steps. Each buffer is named by the block a step works on (the rows of
`x`, the columns of `w`, one slot of a staging or ring buffer), and each step is written once, for any column
flow `f`, ring hop `s` and slot. -/

@[expose] public section

noncomputable section

namespace Cert.KernelIdeal.Ring

open Idealize.ShloMosaic Idealize.SL.Sem Cert.KernelIdeal Cert.KernelIdeal.Gen

variable {F : FTy → Type} [FloatOps F]

/-! ## Rectangles -/

/-- The 512 rows of `x` that device `d` numbers `r` (those of device `d + r`), read from HBM. -/
abbrev xRect (d : Dev nD) (r : Fin 8) : Rect S4096x512 :=
  Rect.unit (k0_off1 d (BitVec.ofNat 32 r.val)) S512x512.size (k0_off1_inb d r)

/-- The same rows of the bf16 copy of `x`. -/
abbrev xbRect (d : Dev nD) (r : Fin 8) : Rect S4096x512 :=
  Rect.unit (k0_off2 d (BitVec.ofNat 32 r.val)) S512x512.size (k0_off2_inb d r)

theorem inb3 : ∀ (j : Fin 3) (a : Fin 3), (![j.val, 0, 0] : Fin 3 → Nat) a + S1x512x512.size a ≤ S3x512x512.size a := by decide
theorem inb2 : ∀ (j : Fin 2) (a : Fin 3), (![j.val, 0, 0] : Fin 3 → Nat) a + S1x512x512.size a ≤ S2x512x512.size a := by decide
theorem inbC : ∀ (f : Fin 4) (a : Fin 2), (![0, 512 * f.val] : Fin 2 → Nat) a + S512x512.size a ≤ S512x2048.size a := by decide
theorem inbQ2 : ∀ (f : Fin 4) (j : Fin 2) (a : Fin 4), (![f.val, j.val, 0, 0] : Fin 4 → Nat) a + S1x1x512x512.size a ≤ S4x2x512x512.size a := by decide
theorem inbQ5 : ∀ (f : Fin 4) (j : Fin 5) (a : Fin 4), (![f.val, j.val, 0, 0] : Fin 4 → Nat) a + S1x1x512x512.size a ≤ S4x5x512x512.size a := by decide
theorem inbM : ∀ (f : Fin 4) (s : Fin 7) (a : Fin 2), (![f.val, s.val] : Fin 2 → Nat) a + S1x1.size a ≤ S4x7.size a := by decide
theorem inb3' : ∀ (j : Fin 3) (a : Fin 1), (![j.val] : Fin 1 → Nat) a + S1.size a ≤ S3.size a := by decide
theorem inb2' : ∀ (j : Fin 2) (a : Fin 1), (![j.val] : Fin 1 → Nat) a + S1.size a ≤ S2.size a := by decide
theorem inb4' : ∀ (j : Fin 4) (a : Fin 1), (![j.val] : Fin 1 → Nat) a + S1.size a ≤ S4.size a := by decide

/-- Staging slot `j` of the three for `x`. -/
abbrev rect3 (j : Fin 3) : Rect S3x512x512 := Rect.unit ![j.val, 0, 0] S1x512x512.size (inb3 j)
/-- Staging slot `j` of the two for `w`. -/
abbrev rect2 (j : Fin 2) : Rect S2x512x512 := Rect.unit ![j.val, 0, 0] S1x512x512.size (inb2 j)
/-- The 512 columns of flow `f`. -/
abbrev colRect (f : Fin 4) : Rect S512x2048 := Rect.unit ![0, 512 * f.val] S512x512.size (inbC f)
/-- Slot `j` of flow `f` in a ring buffer of two slots a flow. -/
abbrev rectQ2 (f : Fin 4) (j : Fin 2) : Rect S4x2x512x512 := Rect.unit ![f.val, j.val, 0, 0] S1x1x512x512.size (inbQ2 f j)
/-- Slot `j` of flow `f` in the ring buffer of five slots a flow. -/
abbrev rectQ5 (f : Fin 4) (j : Fin 5) : Rect S4x5x512x512 := Rect.unit ![f.val, j.val, 0, 0] S1x1x512x512.size (inbQ5 f j)

theorem packedC : ∀ f : Fin 4, (colRect f).PackedRows (EltTy.packing .bf16) := by decide
theorem packed8 : ∀ (f : Fin 4) (j : Fin 2), (rectQ2 f j).PackedRows (EltTy.packing .fp8e4m3) := by decide
theorem packedB : ∀ (f : Fin 4) (j : Fin 2), (rectQ2 f j).PackedRows (EltTy.packing .bf16) := by decide
theorem words8 : ∀ (f : Fin 4) (j : Fin 2), (rectQ2 f j).WholeWords (EltTy.packing .fp8e4m3) := by decide
theorem wordsB2 : ∀ (f : Fin 4) (j : Fin 2), (rectQ2 f j).WholeWords (EltTy.packing .bf16) := by decide
theorem wordsB5 : ∀ (f : Fin 4) (j : Fin 5), (rectQ5 f j).WholeWords (EltTy.packing .bf16) := by decide

/-! ## Blocks -/

/-- Rows `r` of `x` in HBM. -/
abbrev xH (d : Dev nD) (r : Fin 8) : Memref sig .tc .hbm S512x512 .f32 := (Memref.whole main_arg0).slice (xRect d r) (fun _ => rfl)
/-- Columns `f` of `w` in HBM. -/
abbrev wH (f : Fin 4) : Memref sig .tc .hbm S512x512 .f32 := (Memref.whole main_arg1).slice (colRect f) (fun _ => rfl)
/-- Columns `f` of the result in HBM. -/
abbrev oH (f : Fin 4) : Memref sig .tc .hbm S512x512 .f32 := (Memref.whole main_v1).slice (colRect f) (fun _ => rfl)
/-- Staging slot `j` for `x`. -/
abbrev xS (j : Fin 3) : Memref sig .tc .vmem S512x512 .f32 :=
  ((Memref.whole cc0_scratch0).slice (rect3 j) (fun _ => rfl)).squeeze S512x512 squeezes_S1x512x512_S512x512
/-- Staging slot `j` for `w`. -/
abbrev wS (j : Fin 2) : Memref sig .tc .vmem S512x512 .f32 :=
  ((Memref.whole cc0_scratch1).slice (rect2 j) (fun _ => rfl)).squeeze S512x512 squeezes_S1x512x512_S512x512
/-- Rows `r` of the bf16 copy of `x`. -/
abbrev xB (d : Dev nD) (r : Fin 8) : Memref sig .tc .vmem S512x512 .bf16 := (Memref.whole cc0_scratch2).slice (xbRect d r) (fun _ => rfl)
/-- Columns `f` of the bf16 copy of `w`. -/
abbrev wB (f : Fin 4) : Memref sig .tc .vmem S512x512 .bf16 := (Memref.whole cc0_scratch3).slice (colRect f) (fun _ => rfl)
/-- The fp8 slot `j` of flow `f` that is sent from. -/
abbrev s8 (f : Fin 4) (j : Fin 2) : Memref sig .tc .vmem S512x512 .fp8e4m3 :=
  ((Memref.whole cc0_scratch4).slice (rectQ2 f j) (fun _ => rfl)).squeeze S512x512 squeezes_S1x1x512x512_S512x512
/-- The fp8 slot `j` of flow `f` that is received into. -/
abbrev r8 (f : Fin 4) (j : Fin 2) : Memref sig .tc .vmem S512x512 .fp8e4m3 :=
  ((Memref.whole cc0_scratch5).slice (rectQ2 f j) (fun _ => rfl)).squeeze S512x512 squeezes_S1x1x512x512_S512x512
/-- The bf16 slot `j` of flow `f` that is sent from. -/
abbrev sB (f : Fin 4) (j : Fin 2) : Memref sig .tc .vmem S512x512 .bf16 :=
  ((Memref.whole cc0_scratch6).slice (rectQ2 f j) (fun _ => rfl)).squeeze S512x512 squeezes_S1x1x512x512_S512x512
/-- The bf16 slot `j` of flow `f` that is received into. -/
abbrev rB (f : Fin 4) (j : Fin 5) : Memref sig .tc .vmem S512x512 .bf16 :=
  ((Memref.whole cc0_scratch7).slice (rectQ5 f j) (fun _ => rfl)).squeeze S512x512 squeezes_S1x1x512x512_S512x512
/-- Columns `f` of the result before it is copied out. -/
abbrev oV (f : Fin 4) : Memref sig .tc .vmem S512x512 .f32 := (Memref.whole cc0_scratch8).slice (colRect f) (fun _ => rfl)

/-! ## Semaphores -/

/-- The completion of a copy into staging slot `j` of `x`. -/
abbrev xSem (j : Fin 3) := ((cc0_scratch9.slice (Rect.unit (s := S3) ![j.val] S1.size (inb3' j))).squeeze S_ squeezes_S1_S_).sem
/-- The completion of a copy into staging slot `j` of `w`. -/
abbrev wSem (j : Fin 2) := ((cc0_scratch10.slice (Rect.unit (s := S2) ![j.val] S1.size (inb2' j))).squeeze S_ squeezes_S1_S_).sem
/-- The completion of the copy out of columns `f`. -/
abbrev oSem (f : Fin 4) := ((cc0_scratch11.slice (Rect.unit (s := S4) ![f.val] S1.size (inb4' f))).squeeze S_ squeezes_S1_S_).sem
/-- The departure of hop `s` of flow `f`. -/
abbrev sSem (f : Fin 4) (s : Fin 7) := ((cc0_scratch12.slice (Rect.unit (s := S4x7) ![f.val, s.val] S1x1.size (inbM f s))).squeeze S_ squeezes_S1x1_S_).sem
/-- The arrival of hop `s` of flow `f`. -/
abbrev rSem (f : Fin 4) (s : Fin 7) := ((cc0_scratch13.slice (Rect.unit (s := S4x7) ![f.val, s.val] S1x1.size (inbM f s))).squeeze S_ squeezes_S1x1_S_).sem
/-- The barrier's semaphore. -/
abbrev barSem := (SemArray.scalar (sig.barrier 0 rfl) : Sems sig S_).sem

/-! ## Word facts of the blocks -/

theorem xH_words (d : Dev nD) (r : Fin 8) : (xH d r).view.WordExact := View.wordExact_bits rfl
theorem s8_words (f : Fin 4) (j : Fin 2) : (s8 f j).view.WordExact := ((Memref.isWhole_whole _).wordExact_slice rfl _ (words8 f j)).reshape _ _
theorem r8_words (f : Fin 4) (j : Fin 2) : (r8 f j).view.WordExact := ((Memref.isWhole_whole _).wordExact_slice rfl _ (words8 f j)).reshape _ _
theorem sB_words (f : Fin 4) (j : Fin 2) : (sB f j).view.WordExact := ((Memref.isWhole_whole _).wordExact_slice rfl _ (wordsB2 f j)).reshape _ _
theorem rB_words (f : Fin 4) (j : Fin 5) : (rB f j).view.WordExact := ((Memref.isWhole_whole _).wordExact_slice rfl _ (wordsB5 f j)).reshape _ _

/-! ## Steps -/

/-- A program of the kernel that returns nothing. -/
abbrev Step (F : FTy → Type) := Prog (TpuEff nD τ sig (Elt F) Λ₀ .tc) PUnit

/-- Start the copy of rows `r` of `x` into slot `j`. -/
def startX (d : Dev nD) (r : Fin 8) (j : Fin 3) : Step F :=
  Prog.lift (.enqueueDma (xH d r) (.here (xS j)) (.dma (xSem j)) (View.wordExact_bits rfl) ((View.wordExact_bits rfl).reshape _ _) ⟨Or.inl rfl, trivial⟩)

/-- Start the copy of columns `f` of `w` into slot `j`. -/
def startW (f : Fin 4) (j : Fin 2) : Step F :=
  Prog.lift (.enqueueDma (wH f) (.here (wS j)) (.dma (wSem j)) (View.wordExact_bits rfl) ((View.wordExact_bits rfl).reshape _ _) ⟨Or.inl rfl, trivial⟩)

/-- Wait for rows `r` of `x` in slot `j` and store them as bf16. -/
def castX (d : Dev nD) (r : Fin 8) (j : Fin 3) : Step F := do
  Prog.lift (.waitDma2 (xSem j) (xH d r) (xS j) (View.wordExact_bits rfl) ((View.wordExact_bits rfl).reshape _ _))
  let v : Vec F S1x512x512 .f32 ← Prog.lift (.load (Memref.whole cc0_scratch0) (rect3 j).toLoadRect (View.loadsAt_vmem h_S1x512x512))
  let _ : Vec F S512x512 .bf16 ← Prog.lift (.load (Memref.whole cc0_scratch2) (xbRect d r).toLoadRect (View.loadsAt_vmem h_S512x512))
  Prog.lift (.store (Memref.whole cc0_scratch2) (xbRect d r) (k0_pay2 v) Finset.univ (View.stores_vmem h_S512x512 ((Memref.isWhole_whole _).storeExact_slice rfl _ (k0_off2_packedbf16 d r)) (fun _ => rfl)) (.inl rfl))

/-- Wait for columns `f` of `w` in slot `j` and store them as bf16. -/
def castW (f : Fin 4) (j : Fin 2) : Step F := do
  Prog.lift (.waitDma2 (wSem j) (wH f) (wS j) (View.wordExact_bits rfl) ((View.wordExact_bits rfl).reshape _ _))
  let v : Vec F S1x512x512 .f32 ← Prog.lift (.load (Memref.whole cc0_scratch1) (rect2 j).toLoadRect (View.loadsAt_vmem h_S1x512x512))
  let _ : Vec F S512x512 .bf16 ← Prog.lift (.load (Memref.whole cc0_scratch3) (colRect f).toLoadRect (View.loadsAt_vmem h_S512x512))
  Prog.lift (.store (Memref.whole cc0_scratch3) (colRect f) (k0_pay1 v) Finset.univ (View.stores_vmem h_S512x512 ((Memref.isWhole_whole _).storeExact_slice rfl _ (packedC f)) (fun _ => rfl)) (.inl rfl))

/-- Load rows `r` of the bf16 `x`. -/
def ldX (d : Dev nD) (r : Fin 8) : Prog (TpuEff nD τ sig (Elt F) Λ₀ .tc) (Vec F S512x512 .bf16) :=
  Prog.lift (.load (Memref.whole cc0_scratch2) (xbRect d r).toLoadRect (View.loadsAt_vmem h_S512x512))
/-- Load columns `f` of the bf16 `w`. -/
def ldW (f : Fin 4) : Prog (TpuEff nD τ sig (Elt F) Λ₀ .tc) (Vec F S512x512 .bf16) :=
  Prog.lift (.load (Memref.whole cc0_scratch3) (colRect f).toLoadRect (View.loadsAt_vmem h_S512x512))
/-- Replace slot `j` of the fp8 buffer that is sent from (the slot is read first). -/
def stS8 (f : Fin 4) (j : Fin 2) (v : Vec F S1x1x512x512 .fp8e4m3) : Step F := do
  let _ : Vec F S1x1x512x512 .fp8e4m3 ← Prog.lift (.load (Memref.whole cc0_scratch4) (rectQ2 f j).toLoadRect (View.loadsAt_vmem h_S1x1x512x512))
  Prog.lift (.store (Memref.whole cc0_scratch4) (rectQ2 f j) v Finset.univ (View.stores_vmem h_S1x1x512x512 ((Memref.isWhole_whole _).storeExact_slice rfl _ (packed8 f j)) (fun _ => rfl)) (.inl rfl))
/-- Replace slot `j` of the bf16 buffer that is sent from (the slot is read first). -/
def stSB (f : Fin 4) (j : Fin 2) (v : Vec F S1x1x512x512 .bf16) : Step F := do
  let _ : Vec F S1x1x512x512 .bf16 ← Prog.lift (.load (Memref.whole cc0_scratch6) (rectQ2 f j).toLoadRect (View.loadsAt_vmem h_S1x1x512x512))
  Prog.lift (.store (Memref.whole cc0_scratch6) (rectQ2 f j) v Finset.univ (View.stores_vmem h_S1x1x512x512 ((Memref.isWhole_whole _).storeExact_slice rfl _ (packedB f j)) (fun _ => rfl)) (.inl rfl))
/-- Load fp8 receive slot `j`. -/
def ldR8 (f : Fin 4) (j : Fin 2) : Prog (TpuEff nD τ sig (Elt F) Λ₀ .tc) (Vec F S1x1x512x512 .fp8e4m3) :=
  Prog.lift (.load (Memref.whole cc0_scratch5) (rectQ2 f j).toLoadRect (View.loadsAt_vmem h_S1x1x512x512))
/-- Load bf16 receive slot `j`. -/
def ldRB (f : Fin 4) (j : Fin 5) : Prog (TpuEff nD τ sig (Elt F) Λ₀ .tc) (Vec F S1x1x512x512 .bf16) :=
  Prog.lift (.load (Memref.whole cc0_scratch7) (rectQ5 f j).toLoadRect (View.loadsAt_vmem h_S1x1x512x512))

/-- Send fp8 slot `j` to device `n` as hop `s`. -/
def send8 (n : Dev nD) (f : Fin 4) (s : Fin 7) (j : Fin 2) : Step F :=
  Prog.lift (.enqueueDma (s8 f j) (.remote (Dev.tc n) (r8 f j) (.dma (sSem f s))) (.dma (rSem f s)) (s8_words f j) (r8_words f j) ⟨⟨rfl, Or.inl rfl⟩, trivial⟩)
/-- Send bf16 slot `i` to slot `j` of device `n` as hop `s`. -/
def sendB (n : Dev nD) (f : Fin 4) (s : Fin 7) (i : Fin 2) (j : Fin 5) : Step F :=
  Prog.lift (.enqueueDma (sB f i) (.remote (Dev.tc n) (rB f j) (.dma (sSem f s))) (.dma (rSem f s)) (sB_words f i) (rB_words f j) ⟨⟨rfl, Or.inl rfl⟩, trivial⟩)
/-- Wait for the arrival of hop `s`, an fp8 one. -/
def arrive8 (f : Fin 4) (s : Fin 7) (j : Fin 2) : Step F :=
  Prog.lift (.waitDma2 (rSem f s) (s8 f j) (r8 f j) (s8_words f j) (r8_words f j))
/-- Wait for the arrival of hop `s`, a bf16 one. -/
def arriveB (f : Fin 4) (s : Fin 7) (i : Fin 2) (j : Fin 5) : Step F :=
  Prog.lift (.waitDma2 (rSem f s) (sB f i) (rB f j) (sB_words f i) (rB_words f j))
/-- Wait for the departure of hop `s`, an fp8 one. -/
def depart8 (f : Fin 4) (s : Fin 7) (j : Fin 2) : Step F :=
  Prog.lift (.waitDma2 (sSem f s) (r8 f j) (s8 f j) (r8_words f j) (s8_words f j))
/-- Wait for the departure of hop `s`, a bf16 one. -/
def departB (f : Fin 4) (s : Fin 7) (i : Fin 2) (j : Fin 5) : Step F :=
  Prog.lift (.waitDma2 (sSem f s) (rB f j) (sB f i) (rB_words f j) (sB_words f i))

/-- The first product of flow `f`, sent on. -/
def first (d n : Dev nD) (f : Fin 4) (r : Fin 8) : Step F := do
  let a ← ldX d r
  let b ← ldW f
  stS8 f 0 (k0_pay3 a b)
  send8 n f 0 0

/-- Hop 0: the arriving fp8 sum, with this device's product added, sent on as fp8. -/
def hop0 (d n : Dev nD) (f : Fin 4) (r : Fin 8) : Step F := do
  let a ← ldX d r
  let b ← ldW f
  arrive8 f 0 0
  let v ← ldR8 f 0
  stS8 f 1 (k0_pay12 a b v)
  send8 n f 1 1

/-- Hop 1: the arriving fp8 sum, with this device's product added, sent on as bf16. -/
def hop1 (d n : Dev nD) (f : Fin 4) (r : Fin 8) : Step F := do
  let a ← ldX d r
  let b ← ldW f
  arrive8 f 1 1
  let v ← ldR8 f 1
  stSB f 0 (k0_pay25 a b v)
  sendB n f 2 0 0

/-- Hop 2: the arriving bf16 sum, with this device's product added, sent on. -/
def hop2 (d n : Dev nD) (f : Fin 4) (r : Fin 8) : Step F := do
  let a ← ldX d r
  let b ← ldW f
  arriveB f 2 0 0
  let v ← ldRB f 0
  stSB f 1 (k0_pay28 a b v)
  sendB n f 3 1 1

/-- Hops 3 to 5: as hop 2, but the slot sent from is used again, so the departure of the hop before the last is
waited for. `i` is the slot of the arriving hop at its sender and of the departed hop's receiver slot `k`. -/
def hopN (d n : Dev nD) (f : Fin 4) (r : Fin 8) (s s₀ s₁ : Fin 7) (i i' : Fin 2) (j₀ j j₁ : Fin 5) : Step F := do
  let a ← ldX d r
  let b ← ldW f
  arriveB f s i j
  departB f s₀ i' j₀
  let v ← ldRB f j
  stSB f i' (k0_pay28 a b v)
  sendB n f s₁ i' j₁

/-- Hop 6: the arriving sum with the last product added is scaled, put through the activation and copied out. -/
def hop6 (d : Dev nD) (sx sw : Memref sig .tc .smem S1 .f32) (f : Fin 4) (r : Fin 8) : Step F := do
  let a ← ldX d r
  let b ← ldW f
  arriveB f 6 0 4
  let v ← ldRB f 4
  let p : Elt F .f32 ← smemLoad sx (Rect.unit (s := S1) ![0] S1.size inb_S1_S1_0) numel1_S1 rfl
  let q : Elt F .f32 ← smemLoad sw (Rect.unit (s := S1) ![0] S1.size inb_S1_S1_0) numel1_S1 rfl
  let _ : Vec F S512x512 .f32 ← Prog.lift (.load (Memref.whole cc0_scratch8) (colRect f).toLoadRect (View.loadsAt_vmem h_S512x512))
  Prog.lift (.store (Memref.whole cc0_scratch8) (colRect f) (k0_pay64 (k0_pay63 a b v) p q) Finset.univ (View.stores_vmem_bits_univ h_S512x512 rfl) (.inl rfl))
  Prog.lift (.enqueueDma (oV f) (.here (oH f)) (.dma (oSem f)) (View.wordExact_bits rfl) (View.wordExact_bits rfl) ⟨Or.inl rfl, trivial⟩)

/-- The departures flow `f` has not waited for yet. -/
def drain (f : Fin 4) : Step F := do
  depart8 f 0 0
  depart8 f 1 1
  departB f 5 1 3
  departB f 6 0 4

/-- Wait for the copy out of columns `f`. -/
def outW (f : Fin 4) : Step F :=
  Prog.lift (.waitDma2 (oSem f) (oV f) (oH f) (View.wordExact_bits rfl) (View.wordExact_bits rfl))

/-- The copies started before the barrier. -/
def openCopies (d : Dev nD) : Step F := do
  startX d 7 0
  startX d 1 1
  startX d 6 2
  startW 0 0
  startW 1 1

/-- The barrier with both neighbours. -/
def meet (d : Dev nD) : Step F := do
  semSignalWord (⟨k0_dev1 d, k0_dev1_lt d⟩ : Dev nD) barSem 1#32
  semSignalWord (⟨k0_dev2 d, k0_dev2_lt d⟩ : Dev nD) barSem 1#32
  semWaitWord barSem 2#32

/-- The first products of the four flows. -/
def opening (d : Dev nD) : Step F := do
  castW 0 0
  startW 2 0
  castX d 7 0
  startX d 2 0
  first d ⟨k0_dev3 d, k0_dev3_lt d⟩ 0 7
  castW 1 1
  startW 3 1
  first d ⟨k0_dev4 d, k0_dev4_lt d⟩ 1 7
  castW 2 0
  castX d 1 1
  startX d 5 1
  first d ⟨k0_dev5 d, k0_dev5_lt d⟩ 2 1
  castW 3 1
  first d ⟨k0_dev6 d, k0_dev6_lt d⟩ 3 1

/-- Hop 0 of the four flows. -/
def round0 (d : Dev nD) : Step F := do
  castX d 6 2
  startX d 3 2
  hop0 d ⟨k0_dev7 d, k0_dev7_lt d⟩ 0 6
  castX d 2 0
  startX d 4 0
  hop0 d ⟨k0_dev8 d, k0_dev8_lt d⟩ 2 2
  hop0 d ⟨k0_dev9 d, k0_dev9_lt d⟩ 1 6
  hop0 d ⟨k0_dev10 d, k0_dev10_lt d⟩ 3 2

/-- Hop 1 of the four flows. -/
def round1 (d : Dev nD) : Step F := do
  castX d 5 1
  startX d 0 1
  hop1 d ⟨k0_dev11 d, k0_dev11_lt d⟩ 0 5
  castX d 3 2
  hop1 d ⟨k0_dev12 d, k0_dev12_lt d⟩ 2 3
  hop1 d ⟨k0_dev13 d, k0_dev13_lt d⟩ 1 5
  hop1 d ⟨k0_dev14 d, k0_dev14_lt d⟩ 3 3

/-- Hop 2 of the four flows. -/
def round2 (d : Dev nD) : Step F := do
  castX d 4 0
  hop2 d ⟨k0_dev15 d, k0_dev15_lt d⟩ 0 4
  hop2 d ⟨k0_dev16 d, k0_dev16_lt d⟩ 2 4
  hop2 d ⟨k0_dev17 d, k0_dev17_lt d⟩ 1 4
  hop2 d ⟨k0_dev18 d, k0_dev18_lt d⟩ 3 4

/-- Hop 3 of the four flows. -/
def round3 (d : Dev nD) : Step F := do
  hopN d ⟨k0_dev19 d, k0_dev19_lt d⟩ 0 3 3 2 4 1 0 0 1 2
  hopN d ⟨k0_dev20 d, k0_dev20_lt d⟩ 2 5 3 2 4 1 0 0 1 2
  hopN d ⟨k0_dev21 d, k0_dev21_lt d⟩ 1 3 3 2 4 1 0 0 1 2
  hopN d ⟨k0_dev22 d, k0_dev22_lt d⟩ 3 5 3 2 4 1 0 0 1 2

/-- Hop 4 of the four flows. -/
def round4 (d : Dev nD) : Step F := do
  hopN d ⟨k0_dev23 d, k0_dev23_lt d⟩ 0 2 4 3 5 0 1 1 2 3
  hopN d ⟨k0_dev24 d, k0_dev24_lt d⟩ 2 6 4 3 5 0 1 1 2 3
  hopN d ⟨k0_dev25 d, k0_dev25_lt d⟩ 1 2 4 3 5 0 1 1 2 3
  hopN d ⟨k0_dev26 d, k0_dev26_lt d⟩ 3 6 4 3 5 0 1 1 2 3

/-- Hop 5 of the four flows. -/
def round5 (d : Dev nD) : Step F := do
  hopN d ⟨k0_dev27 d, k0_dev27_lt d⟩ 0 1 5 4 6 1 0 2 3 4
  hopN d ⟨k0_dev28 d, k0_dev28_lt d⟩ 2 7 5 4 6 1 0 2 3 4
  hopN d ⟨k0_dev29 d, k0_dev29_lt d⟩ 1 1 5 4 6 1 0 2 3 4
  hopN d ⟨k0_dev30 d, k0_dev30_lt d⟩ 3 7 5 4 6 1 0 2 3 4

/-- Hop 6 of the four flows. -/
def round6 (d : Dev nD) (sx sw : Memref sig .tc .smem S1 .f32) : Step F := do
  castX d 0 1
  hop6 d sx sw 0 0
  hop6 d sx sw 2 0
  hop6 d sx sw 1 0
  hop6 d sx sw 3 0

/-- What is left to wait for. -/
def closing : Step F := do
  drain 0
  drain 1
  drain 2
  drain 3
  outW 0
  outW 2
  outW 1
  outW 3

/-- The body at device `d`. -/
def run (d : Dev nD) (sx sw : Memref sig .tc .smem S1 .f32) : Step F := do
  openCopies d
  meet d
  opening d
  round0 d
  round1 d
  round2 d
  round3 d
  round4 d
  round5 d
  round6 d sx sw
  closing

/-- The body: learn the device, then run. -/
def body (sx sw : Memref sig .tc .smem S1 .f32) : Step F := do
  let d : Dev nD ← Prog.lift .deviceId
  run d sx sw

end Cert.KernelIdeal.Ring
-- ==== Proof.Proto.lean ====
module

public import proofs.«01_k».proof.Proof.Flow
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

/-! The protocol of the ring: which cells there are, how much each is credited, what each hands over, what every
device owes when it starts and at which level each cell is waited for. -/

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds' ghost state of the ring's cells. -/
abbrev UB : Type := URounds (GSem nD τ sig) Bool
/-- The pipeline's ghost state, the ring's, and the counters of the local copies. -/
abbrev UU : Type := UR sig nD τ × (UB × Counters)

local notation "𝕄" => MT nD τ sig Unit (Elt F) ℕ UU ℕ

/-- Where the pipeline's ghost state sits. -/
abbrev EP : Emb (UR sig nD τ) (MT nD τ sig Unit (Elt F) ℕ UU ℕ) := embL
/-- Where the ring's ghost state sits. -/
abbrev ER : Emb UB (MT nD τ sig Unit (Elt F) ℕ UU ℕ) := (Emb.inl : Emb UB (UB × Counters)).trans embR

abbrev 𝒱₀ : Variants := Variants.none

/-- The weakest precondition of a program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The ring -/

/-- The right neighbour. -/
def nxt (c : Dev nD) : Dev nD := ⟨(c.val + 1) % 8, Nat.mod_lt _ (by decide)⟩
/-- The left neighbour. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- The ring's turn by one. -/
def ring : Dev nD ≃ Dev nD := ⟨nxt, prv, prv_nxt, nxt_prv⟩

/-- Where flow `f` is sent to: flows 0 and 1 to the right, flows 2 and 3 to the left. -/
def dst (f : Fin 4) (c : Dev nD) : Dev nD := if f.val < 2 then nxt c else prv c
/-- Where flow `f` comes from. -/
def src (f : Fin 4) (c : Dev nD) : Dev nD := if f.val < 2 then prv c else nxt c

theorem src_dst (f : Fin 4) (c : Dev nD) : src f (dst f c) = c := by
  unfold src dst; split
  · exact prv_nxt c
  · exact nxt_prv c
theorem dst_src (f : Fin 4) (c : Dev nD) : dst f (src f c) = c := by
  unfold src dst; split
  · exact nxt_prv c
  · exact prv_nxt c

/-! ## The cells -/

/-- The cells of one device: its barrier, or the departure (`false`) or arrival (`true`) of hop `s` of flow `f`. -/
abbrev Cell : Type := Option (Bool × Fin 4 × Fin 7)

/-- The semaphore of a cell. -/
abbrev csem : Cell → SemLoc sig
  | none => .reg barSem
  | some (false, f, s) => .dma (sSem f s)
  | some (true, f, s) => .dma (rSem f s)

/-- The cell of a device. -/
abbrev kcell (ck : Dev nD × Cell) : GSem nD τ sig := ((ck.1 : Thread nD τ), csem ck.2)

abbrev barCell (c : Dev nD) : GSem nD τ sig := kcell (c, none)
abbrev sCell (c : Dev nD) (f : Fin 4) (s : Fin 7) : GSem nD τ sig := kcell (c, some (false, f, s))
abbrev rCell (c : Dev nD) (f : Fin 4) (s : Fin 7) : GSem nD τ sig := kcell (c, some (true, f, s))

theorem csem_injective : Function.Injective csem := by
  have h1 : ∀ p q : Bool × Fin 4 × Fin 7, csem (some p) = csem (some q) → p = q := by decide
  intro a b h
  rcases a with _ | ⟨b₁, f, s⟩ <;> rcases b with _ | ⟨b₂, f', s'⟩
  · rfl
  · cases b₂ <;> cases h
  · cases b₁ <;> cases h
  · exact congrArg some (h1 _ _ h)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which cell a semaphore is, if it is one of the ring's. -/
def cellOf? (g : GSem nD τ sig) : Option (Dev nD × Cell) := Function.partialInv kcell g

theorem cellOf?_kcell (ck : Dev nD × Cell) : cellOf? (kcell ck) = some ck := Function.partialInv_left kcell_injective ck

theorem cellOf?_eq {g : GSem nD τ sig} {ck : Dev nD × Cell} (h : cellOf? g = some ck) : g = kcell ck :=
  ((Function.partialInv_of_injective kcell_injective ck g).mp h).symm

/-- The units an arrival of hop `s` credits: fp8 blocks in hops 0 and 1, bf16 ones after. -/
def N (s : Fin 7) : ℕ := if s.val < 2 then (r8 0 0).view.dmaCredit else (rB 0 0).view.dmaCredit

theorem N_pos (s : Fin 7) : 0 < N s := by
  unfold N; split
  · exact View.dmaCredit_pos _ (by decide)
  · exact View.dmaCredit_pos _ (by decide)

/-- The units one duty of a cell is worth. -/
def amt : Cell → ℕ
  | none => 1
  | some (_, _, s) => N s

/-! ## Blocks and contents -/

/-- Device `c` holds the elements under the view `V`, which reads `v`. -/
def blk {sp : Space} {s : Shape} {e : EltTy} (c : Dev nD) (V : View sig .tc sp s e) (v : s.Idx → Elt F e) : sProp 𝕄 :=
  V.loc (c : Thread nD τ) ↦[V.set]{fullShare} V.rep v

instance blk_storable {sp : Space} {s : Shape} {e : EltTy} (c : Dev nD) (V : View sig .tc sp s e) (v : s.Idx → Elt F e) :
    BI.Storable (upEmb : UEmb _ 𝕄) (blk c V v) := by unfold blk; infer_instance

/-- The block, holding anything. -/
def any {sp : Space} {s : Shape} {e : EltTy} (c : Dev nD) (V : View sig .tc sp s e) : sProp 𝕄 := iprop(∃ v : s.Idx → Elt F e, blk c V v)

instance any_storable {sp : Space} {s : Shape} {e : EltTy} (c : Dev nD) (V : View sig .tc sp s e) :
    BI.Storable (upEmb : UEmb _ 𝕄) (any (F := F) c V) := by unfold any; infer_instance

abbrev vXS (j : Fin 3) := (Memref.whole cc0_scratch0 : Memref sig .tc .vmem S3x512x512 .f32).access (rect3 j)
abbrev vWS (j : Fin 2) := (Memref.whole cc0_scratch1 : Memref sig .tc .vmem S2x512x512 .f32).access (rect2 j)
abbrev vX (d : Dev nD) (r : Fin 8) := (Memref.whole cc0_scratch2 : Memref sig .tc .vmem S4096x512 .bf16).access (xbRect d r)
abbrev vW (f : Fin 4) := (Memref.whole cc0_scratch3 : Memref sig .tc .vmem S512x2048 .bf16).access (colRect f)
abbrev v4 (f : Fin 4) (j : Fin 2) := (Memref.whole cc0_scratch4 : Memref sig .tc .vmem S4x2x512x512 .fp8e4m3).access (rectQ2 f j)
abbrev v5 (f : Fin 4) (j : Fin 2) := (Memref.whole cc0_scratch5 : Memref sig .tc .vmem S4x2x512x512 .fp8e4m3).access (rectQ2 f j)
abbrev v6 (f : Fin 4) (j : Fin 2) := (Memref.whole cc0_scratch6 : Memref sig .tc .vmem S4x2x512x512 .bf16).access (rectQ2 f j)
abbrev v7 (f : Fin 4) (j : Fin 5) := (Memref.whole cc0_scratch7 : Memref sig .tc .vmem S4x5x512x512 .bf16).access (rectQ5 f j)
abbrev vO (f : Fin 4) := (Memref.whole cc0_scratch8 : Memref sig .tc .vmem S512x2048 .f32).access (colRect f)
abbrev vH (f : Fin 4) := (Memref.whole main_v1 : Memref sig .tc .hbm S512x2048 .f32).access (colRect f)

variable (m : (ℓ : Loc nD τ sig) → Buf (Elt F) ℓ)

/-- A block seen with a leading axis of one. -/
def up3 {e : EltTy} (w : Vec F S512x512 e) : Vec F S1x512x512 e :=
  fun i => w ((Shape.reshapeEquiv (s := S1x512x512) (s' := S512x512) (by decide)).symm i)

/-- Rows `r` of `x` on device `c`, as bf16. -/
def xv (c : Dev nD) (r : Fin 8) : Vec F S512x512 .bf16 :=
  k0_pay2 (up3 ((xH c r).view.read (Elt F) (m ((c : Thread nD τ).loc main_arg0))))

/-- Columns `f` of `w` on device `c`, as bf16. -/
def wv (c : Dev nD) (f : Fin 4) : Vec F S512x512 .bf16 :=
  k0_pay1 (up3 ((wH f).view.read (Elt F) (m ((c : Thread nD τ).loc main_arg1))))

/-- The rows of `x` flow `f` multiplies before hop `s` is sent (for `s = 7`, before the result). -/
def row (f : Fin 4) (s : Fin 8) : Fin 8 := if f.val < 2 then 7 - s else 1 + s

/-- What device `c` sends as hop 0 of flow `f`. -/
def acc0 (c : Dev nD) (f : Fin 4) : Vec F S1x1x512x512 .fp8e4m3 := k0_pay3 (xv m c (row f 0)) (wv m c f)
/-- What device `c` sends as hop 1 of flow `f`. -/
def acc1 (c : Dev nD) (f : Fin 4) : Vec F S1x1x512x512 .fp8e4m3 := k0_pay12 (xv m c (row f 1)) (wv m c f) (acc0 m (src f c) f)
/-- What device `c` sends as hop 2 of flow `f`. -/
def acc2 (c : Dev nD) (f : Fin 4) : Vec F S1x1x512x512 .bf16 := k0_pay25 (xv m c (row f 2)) (wv m c f) (acc1 m (src f c) f)
/-- What device `c` sends as hop 3 of flow `f`. -/
def acc3 (c : Dev nD) (f : Fin 4) : Vec F S1x1x512x512 .bf16 := k0_pay28 (xv m c (row f 3)) (wv m c f) (acc2 m (src f c) f)
/-- What device `c` sends as hop 4 of flow `f`. -/
def acc4 (c : Dev nD) (f : Fin 4) : Vec F S1x1x512x512 .bf16 := k0_pay28 (xv m c (row f 4)) (wv m c f) (acc3 m (src f c) f)
/-- What device `c` sends as hop 5 of flow `f`. -/
def acc5 (c : Dev nD) (f : Fin 4) : Vec F S1x1x512x512 .bf16 := k0_pay28 (xv m c (row f 5)) (wv m c f) (acc4 m (src f c) f)
/-- What device `c` sends as hop 6 of flow `f`. -/
def acc6 (c : Dev nD) (f : Fin 4) : Vec F S1x1x512x512 .bf16 := k0_pay28 (xv m c (row f 6)) (wv m c f) (acc5 m (src f c) f)
/-- What device `c` writes to columns `f` of the result, `p` and `q` being the two scales. -/
def res (c : Dev nD) (p q : Elt F .f32) (f : Fin 4) : Vec F S512x512 .f32 := k0_pay64 (k0_pay63 (xv m c (row f 7)) (wv m c f) (acc6 m (src f c) f)) p q

/-- What the departure of hop `s` of flow `f` gives back: the slot sent from, as it was. -/
def sndP (c : Dev nD) (f : Fin 4) : Fin 7 → sProp 𝕄
  | 0 => blk c (v4 f 0) (acc0 m c f)
  | 1 => blk c (v4 f 1) (acc1 m c f)
  | 2 => blk c (v6 f 0) (acc2 m c f)
  | 3 => blk c (v6 f 1) (acc3 m c f)
  | 4 => blk c (v6 f 0) (acc4 m c f)
  | 5 => blk c (v6 f 1) (acc5 m c f)
  | 6 => blk c (v6 f 0) (acc6 m c f)

/-- What the arrival of hop `s` of flow `f` hands over: the slot received into, with what the sender computed. -/
def rcvP (c : Dev nD) (f : Fin 4) : Fin 7 → sProp 𝕄
  | 0 => blk c (v5 f 0) (acc0 m (src f c) f)
  | 1 => blk c (v5 f 1) (acc1 m (src f c) f)
  | 2 => blk c (v7 f 0) (acc2 m (src f c) f)
  | 3 => blk c (v7 f 1) (acc3 m (src f c) f)
  | 4 => blk c (v7 f 2) (acc4 m (src f c) f)
  | 5 => blk c (v7 f 3) (acc5 m (src f c) f)
  | 6 => blk c (v7 f 4) (acc6 m (src f c) f)

/-- The slots of flow `f` on device `c` that are received into, holding anything. -/
def slots (c : Dev nD) (f : Fin 4) : sProp 𝕄 :=
  iprop(any c (v5 f 0) ∗ any c (v5 f 1) ∗ any c (v7 f 0) ∗ any c (v7 f 1) ∗ any c (v7 f 2) ∗ any c (v7 f 3) ∗ any c (v7 f 4))

instance sndP_storable (c : Dev nD) (f : Fin 4) (s : Fin 7) : BI.Storable (upEmb : UEmb _ 𝕄) (sndP m c f s) := by
  unfold sndP; split <;> infer_instance
instance rcvP_storable (c : Dev nD) (f : Fin 4) (s : Fin 7) : BI.Storable (upEmb : UEmb _ 𝕄) (rcvP m c f s) := by
  unfold rcvP; split <;> infer_instance
instance slots_storable (c : Dev nD) (f : Fin 4) : BI.Storable (upEmb : UEmb _ 𝕄) (slots (F := F) c f) := by
  unfold slots; infer_instance

/-! ## The schedule -/

/-- What one duty of a cell hands over. The right neighbour's barrier signal (`true`) brings its slots for the flows
sent to it, the left neighbour's (`false`) likewise. -/
def pay (c : Dev nD) (k : Cell) (d : Bool) : sProp 𝕄 :=
  match k with
  | none => if d then iprop(slots (nxt c) 0 ∗ slots (nxt c) 1) else iprop(slots (prv c) 2 ∗ slots (prv c) 3)
  | some (false, f, s) => sndP m c f s
  | some (true, f, s) => rcvP m c f s

instance pay_storable (c : Dev nD) (k : Cell) (d : Bool) : BI.Storable (upEmb : UEmb _ 𝕄) (pay m c k d) := by
  rcases k with _ | ⟨b, f, s⟩
  · cases d
    · show BI.Storable upEmb iprop(slots (prv c) 2 ∗ slots (prv c) 3); infer_instance
    · show BI.Storable upEmb iprop(slots (nxt c) 0 ∗ slots (nxt c) 1); infer_instance
  · cases b <;> (dsimp only [pay]; infer_instance)

/-- The duties of a cell. -/
def dutiesOf : Cell → Finset Bool
  | none => Finset.univ
  | some _ => {false}

/-- One round: a barrier cell has two duties, one from each neighbour; every other cell one. -/
def Rd : Rounds.Schedule (GSem nD τ sig) Bool 𝕄 where
  duties g r := if r = 0 then (cellOf? g).elim ∅ (fun ck => dutiesOf ck.2) else ∅
  unitless _ := False
  amount g _ _ := (cellOf? g).elim 1 (fun ck => amt ck.2)
  payload g _ d := (cellOf? g).elim iprop(emp) (fun ck => pay m ck.1 ck.2 d)
  amount_pos g _ _ _ := by
    rcases h : cellOf? g with _ | ⟨c, _ | ⟨b, f, s⟩⟩
    · exact Nat.one_pos
    · exact Nat.one_pos
    · exact N_pos s

instance Rd_payload_storable (g : GSem nD τ sig) (r : ℕ) (d : Bool) : BI.Storable (upEmb : UEmb _ 𝕄) ((Rd (F := F) m).payload g r d) := by
  show BI.Storable upEmb ((cellOf? g).elim iprop(emp) (fun ck => pay m ck.1 ck.2 d))
  cases cellOf? g
  · dsimp only [Option.elim]; infer_instance
  · dsimp only [Option.elim]; infer_instance

theorem duties_at (ck : Dev nD × Cell) : (Rd (F := F) m).duties (kcell ck) 0 = dutiesOf ck.2 := by
  dsimp only [Rd]; rw [if_pos rfl, cellOf?_kcell]; rfl
theorem duties_later (g : GSem nD τ sig) : ∀ r, 1 ≤ r → (Rd (F := F) m).duties g r = ∅ :=
  fun r hr => by dsimp only [Rd]; rw [if_neg (by omega)]
theorem amount_at (ck : Dev nD × Cell) (d : Bool) : (Rd (F := F) m).amount (kcell ck) 0 d = amt ck.2 := by
  dsimp only [Rd]; rw [cellOf?_kcell]; rfl
theorem payload_at (ck : Dev nD × Cell) (d : Bool) : (Rd (F := F) m).payload (kcell ck) 0 d = pay m ck.1 ck.2 d := by
  dsimp only [Rd]; rw [cellOf?_kcell]; rfl

theorem expect_bar (c : Dev nD) : (Rd (F := F) m).expect (barCell c) 0 = 2 := by
  unfold Schedule.expect Schedule.amountOf
  rw [duties_at, Finset.sum_congr rfl fun d _ => amount_at m (c, none) d]; rfl
theorem expect_hop (c : Dev nD) (b : Bool) (f : Fin 4) (s : Fin 7) : (Rd (F := F) m).expect (kcell (c, some (b, f, s))) 0 = N s := by
  unfold Schedule.expect Schedule.amountOf
  rw [duties_at, Finset.sum_congr rfl fun d _ => amount_at m (c, some (b, f, s)) d]; exact Finset.sum_singleton _ _

theorem rest_bar (c : Dev nD) :
    bigSep ((Rd (F := F) m).duties (barCell c) 0 \ ∅) (fun d => (Rd (F := F) m).payload (barCell c) 0 d)
      = iprop((slots (prv c) 2 ∗ slots (prv c) 3) ∗ (slots (nxt c) 0 ∗ slots (nxt c) 1)) := by
  rw [Finset.sdiff_empty, duties_at]; show bigSep Finset.univ _ = _
  rw [bigSep_univ_eq_bigSepL [false, true] (by decide) (by decide), bigSepL_cons_cons, bigSepL_singleton, payload_at, payload_at]
  rfl
theorem rest_hop (c : Dev nD) (b : Bool) (f : Fin 4) (s : Fin 7) :
    bigSep ((Rd (F := F) m).duties (kcell (c, some (b, f, s))) 0 \ ∅) (fun d => (Rd (F := F) m).payload (kcell (c, some (b, f, s))) 0 d)
      = pay m c (some (b, f, s)) false := by
  rw [Finset.sdiff_empty, duties_at]; show bigSep {false} _ = _
  rw [bigSep_singleton, payload_at]

/-! ## What is owed, and the levels -/

/-- What device `c` still owes when the hops of the list are still to be sent: each one's arrival. -/
def owe (c : Dev nD) : List (Fin 4 × Fin 7) → CellTallies nD τ sig Unit
  | [] => 0
  | p :: l => owe c l + tallyAt (rCell (dst p.1 c) p.1 p.2) () (N p.2)

theorem owe_pos {c : Dev nD} {l : List (Fin 4 × Fin 7)} {g : GSem nD τ sig} {u : Unit} (h : 0 < owe c l g u) :
    ∃ p ∈ l, g = rCell (dst p.1 c) p.1 p.2 := by
  induction l with
  | nil => exact absurd h (Nat.lt_irrefl 0)
  | cons p l ih =>
    unfold owe at h
    rw [Pi.add_apply, Finsupp.add_apply, tallyAt_apply] at h
    by_cases hp : g = rCell (dst p.1 c) p.1 p.2
    · exact ⟨p, List.mem_cons_self .., hp⟩
    · rw [if_neg (fun h' => hp h'.1), Nat.add_zero] at h
      obtain ⟨q, hq, e⟩ := ih h
      exact ⟨q, List.mem_cons_of_mem _ hq, e⟩

/-- The cells of the TensorCores can be waited for. -/
def L (g : GSem nD τ sig) : Finset Unit := if g.1.2 = .tc then {()} else ∅
/-- Barrier cells at level 1, the arrivals of hop `s` at level `s + 2`, everything else at level 0. -/
def lv (g : GSem nD τ sig) (_ : Unit) : ℕ :=
  (cellOf? g).elim 0 fun ck => match ck.2 with
    | none => 1
    | some (false, _, _) => 0
    | some (true, _, s) => s.val + 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [cellOf?_kcell]; rfl
theorem lv_s (c : Dev nD) (f : Fin 4) (s : Fin 7) (u : Unit) : lv (sCell c f s) u = 0 := by unfold lv; rw [cellOf?_kcell]; rfl
theorem lv_r (c : Dev nD) (f : Fin 4) (s : Fin 7) (u : Unit) : lv (rCell c f s) u = s.val + 2 := by unfold lv; rw [cellOf?_kcell]; rfl
theorem lv_other (g : GSem nD τ sig) (u : Unit) (h : ∀ ck, kcell ck ≠ g) : lv g u = 0 := by
  unfold lv
  rcases hg : cellOf? g with _ | ck
  · rfl
  · exact absurd (cellOf?_eq hg).symm (h ck)

/-- A wait at a level below every hop still owed is allowed. -/
theorem mayWait_owe (c : Dev nD) (sm : SemLoc sig) (l : List (Fin 4 × Fin 7)) (n : ℕ) (hn : lv ((c : Thread nD τ), sm) () ≤ n)
    (hl : ∀ p ∈ l, n < p.2.val + 2) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨p, -, rfl⟩ := owe_pos hg; rw [L_tc]; exact Finset.mem_singleton_self _)
    (fun p hp => by rw [Finset.mem_singleton.mp hp]; exact hn)
    (fun g u hg => by obtain ⟨p, hp, rfl⟩ := owe_pos hg; rw [lv_r]; exact hl p hp)

/-! ## The records every device has of all the cells -/

/-- Every cell's invariant, under the names `K`, and that every cell has reached its round. -/
def records (K : Dev nD × Cell → ℕ) : sProp 𝕄 :=
  iprop((bigSep Finset.univ fun ck : Dev nD × Cell => cellInv ER (Rd m) (K ck) (kcell ck))
    ∗ bigSep Finset.univ fun ck : Dev nD × Cell => reached ER (kcell ck) 0)

instance records_persistent (K : Dev nD × Cell → ℕ) : BI.Persistent (records m K) := by unfold records; infer_instance

theorem inv_at (K : Dev nD × Cell → ℕ) (ck : Dev nD × Cell) : records m K ⊢ cellInv ER (Rd m) (K ck) (kcell ck) := by
  have h : (bigSep Finset.univ fun ck : Dev nD × Cell => (cellInv ER (Rd m) (K ck) (kcell ck) : sProp 𝕄)) ⊢ cellInv ER (Rd m) (K ck) (kcell ck) :=
    bigSep_elim (Finset.mem_univ ck)
  unfold records; iintro ⟨H, -⟩
  iapply h; iexact H
theorem reached_at (K : Dev nD × Cell → ℕ) (ck : Dev nD × Cell) : records m K ⊢ reached ER (kcell ck) 0 := by
  have h : (bigSep Finset.univ fun ck : Dev nD × Cell => (reached ER (kcell ck) 0 : sProp 𝕄)) ⊢ reached ER (kcell ck) 0 :=
    bigSep_elim (Finset.mem_univ ck)
  unfold records; iintro ⟨-, H⟩
  iapply h; iexact H

end Cert.KernelIdeal.Ring
-- ==== Proof.Steps.lean ====
module

public import proofs.«01_k».proof.Proof.Proto

/-! What each step of the body does to what the device holds: loads and stores of one block, local copies, the two
signals and the wait of the barrier, sends, arrivals and departures of the ring's blocks. -/

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ) (c : Dev nD)
variable {Q : PUnit.{1} → sProp (MT nD τ sig Unit (Elt F) ℕ UU ℕ)}

/-- Two programs in sequence. -/
theorem WP_bind {α β : Type} (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind _ _ _ p k Q

/-! ## Blocks -/

/-- Held elements that read `v` are the block `v`. -/
theorem blk_of_read {sp : Space} {s : Shape} {e : EltTy} (V : View sig .tc sp s e) {g : Buf (Elt F) (V.loc (c : Thread nD τ))}
    {v : s.Idx → Elt F e} (h : V.read (Elt F) g = v) : (V.loc (c : Thread nD τ) ↦[V.set]{fullShare} g : sProp 𝕄) ⊢ blk c V v := by
  subst h
  unfold blk
  refine Entails.of_eq (pointsTo_congr fun i hi => ?_)
  obtain ⟨x, -, rfl⟩ := Finset.mem_map.mp hi
  rw [View.rep_emb, View.read_apply, cast_cast, cast_eq]

/-- A block holding something holds anything. -/
theorem any_intro {sp : Space} {s : Shape} {e : EltTy} (V : View sig .tc sp s e) (v : s.Idx → Elt F e) : (blk c V v : sProp 𝕄) ⊢ any c V := by
  unfold any; iintro H; iexists v; iexact H

/-- Held elements are the block holding anything. -/
theorem any_of {sp : Space} {s : Shape} {e : EltTy} (V : View sig .tc sp s e) (g : Buf (Elt F) (V.loc (c : Thread nD τ))) :
    (V.loc (c : Thread nD τ) ↦[V.set]{fullShare} g : sProp 𝕄) ⊢ any c V :=
  (blk_of_read c V rfl).trans (any_intro c V _)

/-- What is written through a re-indexed view is read at the matched index. -/
theorem read_write_up {sp : Space} {s t : Shape} {e : EltTy} (V : View sig .tc sp s e) (h : t.numel = s.numel)
    (fd : V.ty.Contents (Elt F)) (w : t.Idx → Elt F e) :
    V.read (Elt F) ((V.reshape t h).write (Elt F) fd w Finset.univ) = fun i => w ((Shape.reshapeEquiv h).symm i) := by
  funext i
  obtain ⟨x, rfl⟩ := (Shape.reshapeEquiv h).surjective i
  rw [Equiv.symm_apply_apply]
  exact View.read_write_of_mem (v := V.reshape t h) fd w (Finset.mem_univ x)

/-- A block copied through re-indexed views of one shape arrives as it was. -/
theorem read_landed {sp sp' : Space} {s t : Shape} {e : EltTy} (V : View sig .tc sp s e) (V' : View sig .tc sp' s e) (h : t.numel = s.numel)
    (fd : V'.ty.Contents (Elt F)) (v : s.Idx → Elt F e) :
    V'.read (Elt F) ((V'.reshape t h).write (Elt F) fd ((V.reshape t h).read (Elt F) (V.rep v)) Finset.univ) = v := by
  rw [read_write_up]
  funext i
  exact (congrFun (View.read_rep V v) _).trans (congrArg v (Equiv.apply_symm_apply _ i))

/-! ## Loads and stores -/

/-- A load of a held block reads it. -/
theorem load_blk {s : Shape} {e : EltTy} {M : Memref sig .tc .vmem s e} {r : Rect s} {hl : M.view.LoadsAt r.toLoadRect} {v : r.shape.Idx → Elt F e}
    {Q : (r.shape.Idx → Elt F e) → sProp 𝕄} :
    blk c (M.access r) v ⊢ iprop((blk c (M.access r) v -∗ Q v) -∗ WP c (Prog.lift (.load M r.toLoadRect hl)) Q) := by
  unfold blk
  iintro H Hk
  iapply (wp_load_rect 𝒱₀ (c : Thread nD τ) none Set.univ (m := M) (r := r) subset_rfl) $$ H
  iintro H
  rw [View.read_rep, wp_ret]; imodintro
  iapply Hk; iexact H

/-- A store over a held block leaves what is stored. -/
theorem store_blk {s : Shape} {e : EltTy} {M : Memref sig .tc .vmem s e} {r : Rect s} {w : r.shape.Idx → Elt F e}
    {hx : (M.access r).Stores Finset.univ} {hm : Finset.univ = Finset.univ ∨ ∀ a, r.stride a = 1} :
    any (F := F) c (M.access r) ⊢ iprop((blk c (M.access r) w -∗ Q ⟨⟩) -∗ WP c (Prog.lift (.store M r w Finset.univ hx hm)) Q) := by
  unfold any
  iintro ⟨%v, H⟩ Hk
  ihave H := (show blk c (M.access r) v ⊢ ((M.access r).loc (c : Thread nD τ) ↦[(M.access r).set]{fullShare} (M.access r).rep v : sProp 𝕄) from .rfl) $$ H
  have hS : (M.access r).setOn Finset.univ ⊆ (M.access r).set := subset_rfl
  iapply (wp_store 𝒱₀ (c : Thread nD τ) none Set.univ (m := M) (r := r) (Mk := Finset.univ) hS) $$ H
  iintro H
  rw [wp_ret]; imodintro
  iapply Hk
  iapply (blk_of_read c (M.access r) (View.read_write_univ _ _)) $$ H

/-- A load whose value is not used, then a store over the same block. -/
theorem replace_blk {s : Shape} {e : EltTy} {M : Memref sig .tc .vmem s e} {r : Rect s} {w : r.shape.Idx → Elt F e} {hl : M.view.LoadsAt r.toLoadRect}
    {hx : (M.access r).Stores Finset.univ} {hm : Finset.univ = Finset.univ ∨ ∀ a, r.stride a = 1} :
    any (F := F) c (M.access r) ⊢ iprop((blk c (M.access r) w -∗ Q ⟨⟩)
      -∗ WP c (Prog.lift (.load M r.toLoadRect hl) >>= fun _ => Prog.lift (.store M r w Finset.univ hx hm)) Q) := by
  rw [WP_bind]
  iintro H Hk
  unfold any
  icases H with ⟨%v, H⟩
  iapply (load_blk c) $$ H
  iintro H
  iapply (store_blk c) $$ [H]
  · iapply any_intro $$ H
  iexact Hk

/-! ## What is owed -/

/-- The device still has the hops of the list to send. -/
def owing (l : List (Fin 4 × Fin 7)) : sProp 𝕄 := iprop(∃ W, owes (c : Thread nD τ) (owe c l) W)

/-! ## Arrivals and departures -/

/-- The wait for a hop's arrival or departure, once the block's units are due: what it hands over, and the cell closed. -/
theorem wait_cell (b : Bool) (f : Fin 4) (s : Fin 7) (l : List (Fin 4 × Fin 7)) {sem : DmaSem sig} (hsem : csem (some (b, f, s)) = .dma sem)
    {sp sp' : Space} {s₁ s₂ : Shape} {e₁ e₂ : EltTy} {srcw : Memref sig .tc sp s₁ e₁} {dstw : Memref sig .tc sp' s₂ e₂}
    {h₁ : srcw.view.WordExact} {h₂ : dstw.view.WordExact} (hN : dstw.view.dmaCredit = N s)
    (hl : ∀ p ∈ l, (if b then s.val + 2 else 0) < p.2.val + 2) :
    iprop(records m K ∗ levAts L lv ∗ cred (tallyAt (kcell (c, some (b, f, s))) () (N s)) ∗ atPos ER (kcell (c, some (b, f, s))) 0 ∅ 0 ∗ owing c l)
      ⊢ iprop(((pay m c (some (b, f, s)) false ∗ semVal (kcell (c, some (b, f, s))) 0 ∗ owing c l) -∗ Q ⟨⟩)
          -∗ WP c (Prog.lift (.waitDma2 sem srcw dstw h₁ h₂)) Q) := by
  have hkc : kcell (c, some (b, f, s)) = ((c : Thread nD τ), .dma sem) := Prod.ext rfl hsem
  have hmw : (levAts L lv : sProp 𝕄) ⊢ MayWait (c : Thread nD τ) (.dma sem) () (owe c l) :=
    mayWait_owe c (.dma sem) l (if b then s.val + 2 else 0) (by rw [← hkc]; cases b <;> [rw [lv_s]; rw [lv_r]] <;> rfl) hl
  unfold owing
  iintro ⟨#HR, #Hlev, Hc, Hat, ⟨%W, HO⟩⟩ Hk
  ihave #HI := (inv_at m K (c, some (b, f, s))) $$ HR
  iapply (Rounds.wp_wait_rest_token 𝒱₀ ER (Rd m) (c : Thread nD τ) none (κ := K (c, some (b, f, s))) (sm := .dma sem)
      (wpE_waitDma2_eq 𝒱₀ (c : Thread nD τ) none Set.univ) (Set.mem_univ _) () (O := owe c l) (W := W) (R := 0) (m := 0) (T := ∅)
      (by rw [Nat.zero_add, ← hkc, expect_hop]; exact hN)) $$ [Hc HO Hat]
  · rw [hN, ← hkc]
    isplitr; · iexact HI
    isplitl [Hc]; · iexact Hc
    isplitl [HO]; · iexact HO
    isplitr; · iapply hmw; iexact Hlev
    iexact Hat
  rw [← hkc]
  iintro ⟨HO, Hat, -, Hpay⟩
  ihave Hp := (Entails.of_eq (rest_hop m c b f s)) $$ Hpay
  imod (Rounds.cell_close ER (Rd m) (Set.mem_univ (K (c, some (b, f, s)))) (fun h => h) (R := 0 + 1) (duties_later m _)) $$ [Hat] with Hz
  · isplitr; · iexact HI
    iexact Hat
  rw [wp_ret]; imodintro
  iapply Hk
  isplitl [Hp]; · iexact Hp
  isplitl [Hz]; · iexact Hz
  iexists _; iexact HO

/-! ## Sends -/

/-- What sending a hop takes besides the block and the slot: that the departure and the arrival are this device's to make. -/
def sendToks (f : Fin 4) (s : Fin 7) : sProp 𝕄 :=
  iprop(dutyTok ER (sCell c f s) 0 false ∗ dutyTok ER (rCell (dst f c) f s) 0 false)

/-- The send of an fp8 block. -/
theorem send8_blk (f : Fin 4) (s : Fin 7) (j : Fin 2) (l : List (Fin 4 × Fin 7)) (v : Vec F S1x1x512x512 .fp8e4m3) (n : Dev nD) (hn : n = dst f c)
    (hN : (r8 0 0).view.dmaCredit = N s) (hs : sndP m c f s = blk c (v4 f j) v) (hr : rcvP m (dst f c) f s = blk (dst f c) (v5 f j) v) :
    iprop(records m K ∗ blk c (v4 f j) v ∗ any (dst f c) (v5 f j) ∗ sendToks c f s ∗ owing c ((f, s) :: l))
      ⊢ iprop(((cred (tallyAt (sCell c f s) () (N s)) ∗ owing c l) -∗ Q ⟨⟩) -∗ WP c (send8 n f s j) Q) := by
  subst hn
  unfold owing sendToks any blk
  iintro ⟨#HR, Hs, ⟨%fd, Hd⟩, ⟨Ht₁, Ht₂⟩, ⟨%W, HO⟩⟩ Hk
  unfold send8
  ihave #HI₁ := (inv_at m K (c, some (false, f, s))) $$ HR
  ihave #HI₂ := (inv_at m K (dst f c, some (true, f, s))) $$ HR
  ihave #Hr₁ := (reached_at m K (c, some (false, f, s))) $$ HR
  ihave #Hr₂ := (reached_at m K (dst f c, some (true, f, s))) $$ HR
  iapply (Rounds.wp_send_pointsTo 𝒱₀ ER (Rd m) (c : Thread nD τ) none (c' := (dst f c : Thread nD τ)) (src := s8 f j) (dst := r8 f j)
      (sS := .dma (sSem f s)) (sem := .dma (rSem f s)) (κ₁ := K (c, some (false, f, s))) (κ₂ := K (dst f c, some (true, f, s)))
      (q := fullShare) (fs := (v4 f j).rep v) (fd := (v5 f j).rep fd)
      (r₁ := 0) (r₂ := 0) (d₁ := false) (d₂ := false)
      (by rw [show (((c : Thread nD τ), .dma (sSem f s)) : GSem nD τ sig) = kcell (c, some (false, f, s)) from rfl, duties_at]; exact Finset.mem_singleton_self _)
      (by rw [show (((dst f c : Thread nD τ), .dma (rSem f s)) : GSem nD τ sig) = kcell (dst f c, some (true, f, s)) from rfl, duties_at]; exact Finset.mem_singleton_self _)
      () () (N s) hN (amount_at m (c, some (false, f, s)) false) (amount_at m (dst f c, some (true, f, s)) false) (owe c l) rfl (W := W)
      (by rw [show (((c : Thread nD τ), .dma (sSem f s)) : GSem nD τ sig) = kcell (c, some (false, f, s)) from rfl, payload_at]
          dsimp only [pay]; rw [hs, View.set_reshape]; exact .rfl)
      (by rw [show (((dst f c : Thread nD τ), .dma (rSem f s)) : GSem nD τ sig) = kcell (dst f c, some (true, f, s)) from rfl, payload_at]
          dsimp only [pay]; rw [hr, View.set_reshape]; exact blk_of_read (dst f c) (v5 f j) (read_landed (v4 f j) (v5 f j) _ _ v)))
    $$ [Hs Hd HO Ht₁ Ht₂]
  · isplitr; · iexact HI₁
    isplitr; · iexact HI₂
    isplitl [Hs]; · rw [View.set_reshape]; iexact Hs
    isplitl [Hd]; · rw [View.set_reshape]; iexact Hd
    isplitl [HO]; · iexact HO
    isplitl [Ht₁]; · iexact Ht₁
    isplitr; · iexact Hr₁
    isplitl [Ht₂]; · iexact Ht₂
    iexact Hr₂
  iintro ⟨Hc, HO⟩
  rw [wp_ret]; imodintro
  iapply Hk
  isplitl [Hc]; · iexact Hc
  iexists W; iexact HO

/-- The send of a bf16 block. -/
theorem sendB_blk (f : Fin 4) (s : Fin 7) (i : Fin 2) (j : Fin 5) (l : List (Fin 4 × Fin 7)) (v : Vec F S1x1x512x512 .bf16) (n : Dev nD) (hn : n = dst f c)
    (hN : (rB 0 0).view.dmaCredit = N s) (hs : sndP m c f s = blk c (v6 f i) v) (hr : rcvP m (dst f c) f s = blk (dst f c) (v7 f j) v) :
    iprop(records m K ∗ blk c (v6 f i) v ∗ any (dst f c) (v7 f j) ∗ sendToks c f s ∗ owing c ((f, s) :: l))
      ⊢ iprop(((cred (tallyAt (sCell c f s) () (N s)) ∗ owing c l) -∗ Q ⟨⟩) -∗ WP c (sendB n f s i j) Q) := by
  subst hn
  unfold owing sendToks any blk
  iintro ⟨#HR, Hs, ⟨%fd, Hd⟩, ⟨Ht₁, Ht₂⟩, ⟨%W, HO⟩⟩ Hk
  unfold sendB
  ihave #HI₁ := (inv_at m K (c, some (false, f, s))) $$ HR
  ihave #HI₂ := (inv_at m K (dst f c, some (true, f, s))) $$ HR
  ihave #Hr₁ := (reached_at m K (c, some (false, f, s))) $$ HR
  ihave #Hr₂ := (reached_at m K (dst f c, some (true, f, s))) $$ HR
  iapply (Rounds.wp_send_pointsTo 𝒱₀ ER (Rd m) (c : Thread nD τ) none (c' := (dst f c : Thread nD τ)) (src := sB f i) (dst := rB f j)
      (sS := .dma (sSem f s)) (sem := .dma (rSem f s)) (κ₁ := K (c, some (false, f, s))) (κ₂ := K (dst f c, some (true, f, s)))
      (q := fullShare) (fs := (v6 f i).rep v) (fd := (v7 f j).rep fd)
      (r₁ := 0) (r₂ := 0) (d₁ := false) (d₂ := false)
      (by rw [show (((c : Thread nD τ), .dma (sSem f s)) : GSem nD τ sig) = kcell (c, some (false, f, s)) from rfl, duties_at]; exact Finset.mem_singleton_self _)
      (by rw [show (((dst f c : Thread nD τ), .dma (rSem f s)) : GSem nD τ sig) = kcell (dst f c, some (true, f, s)) from rfl, duties_at]; exact Finset.mem_singleton_self _)
      () () (N s) hN (amount_at m (c, some (false, f, s)) false) (amount_at m (dst f c, some (true, f, s)) false) (owe c l) rfl (W := W)
      (by rw [show (((c : Thread nD τ), .dma (sSem f s)) : GSem nD τ sig) = kcell (c, some (false, f, s)) from rfl, payload_at]
          dsimp only [pay]; rw [hs, View.set_reshape]; exact .rfl)
      (by rw [show (((dst f c : Thread nD τ), .dma (rSem f s)) : GSem nD τ sig) = kcell (dst f c, some (true, f, s)) from rfl, payload_at]
          dsimp only [pay]; rw [hr, View.set_reshape]; exact blk_of_read (dst f c) (v7 f j) (read_landed (v6 f i) (v7 f j) _ _ v)))
    $$ [Hs Hd HO Ht₁ Ht₂]
  · isplitr; · iexact HI₁
    isplitr; · iexact HI₂
    isplitl [Hs]; · rw [View.set_reshape]; iexact Hs
    isplitl [Hd]; · rw [View.set_reshape]; iexact Hd
    isplitl [HO]; · iexact HO
    isplitl [Ht₁]; · iexact Ht₁
    isplitr; · iexact Hr₁
    isplitl [Ht₂]; · iexact Ht₂
    iexact Hr₂
  iintro ⟨Hc, HO⟩
  rw [wp_ret]; imodintro
  iapply Hk
  isplitl [Hc]; · iexact Hc
  iexists W; iexact HO

end Cert.KernelIdeal.Ring
-- ==== Proof.Local.lean ====
module

public import proofs.«01_k».proof.Proof.Steps

/-! The local copies of the body (the blocks of `x` and `w` in, the result out), the scale words, and the barrier. -/

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)
variable (K : Dev nD × Cell → ℕ) (c : Dev nD)
variable {Q : PUnit.{1} → sProp (MT nD τ sig Unit (Elt F) ℕ UU ℕ)}

/-! ## The cells of the local copies -/

abbrev xCell (j : Fin 3) : GSem nD τ sig := ((c : Thread nD τ), .dma (xSem j))
abbrev wCell (j : Fin 2) : GSem nD τ sig := ((c : Thread nD τ), .dma (wSem j))
abbrev oCell (f : Fin 4) : GSem nD τ sig := ((c : Thread nD τ), .dma (oSem f))

theorem csem_ne_x : ∀ (j : Fin 3) (k : Bool × Fin 4 × Fin 7), csem (some k) ≠ .dma (xSem j) := by decide
theorem csem_ne_w : ∀ (j : Fin 2) (k : Bool × Fin 4 × Fin 7), csem (some k) ≠ .dma (wSem j) := by decide
theorem csem_ne_o : ∀ (j : Fin 4) (k : Bool × Fin 4 × Fin 7), csem (some k) ≠ .dma (oSem j) := by decide

/-- A DMA semaphore that is none of the ring's is at level 0. -/
theorem lv_dma (q : DmaSem sig) (h : ∀ k : Bool × Fin 4 × Fin 7, csem (some k) ≠ .dma q) : lv ((c : Thread nD τ), .dma q) () = 0 :=
  lv_other _ _ fun ck e => by
    have e2 : csem ck.2 = .dma q := congrArg Prod.snd e
    rcases hk : ck.2 with _ | k
    · rw [hk] at e2; cases e2
    · rw [hk] at e2; exact h k e2

/-- Every hop still owed is above level 0. -/
theorem above_zero (l : List (Fin 4 × Fin 7)) : ∀ p ∈ l, 0 < p.2.val + 2 := fun _ _ => Nat.succ_pos _

/-! ## The arrays in HBM -/

/-- Rows `r` of `x`, as they were at the start. -/
def xHeld (r : Fin 8) : sProp 𝕄 := (xH c r).view.loc (c : Thread nD τ) ↦[(xH c r).view.set]{fullShare} m ((c : Thread nD τ).loc main_arg0)
/-- Columns `f` of `w`, as they were at the start. -/
def wHeld (f : Fin 4) : sProp 𝕄 := (wH f).view.loc (c : Thread nD τ) ↦[(wH f).view.set]{fullShare} m ((c : Thread nD τ).loc main_arg1)

/-! ## Copies in -/

/-- The copy of rows `r` into slot `j` under way. -/
def xFly (r : Fin 8) (j : Fin 3) : sProp 𝕄 :=
  Flight (countersEmb (U := UU)) (c : Thread nD τ) (.dma (xSem j)) () (xS 0).view.dmaCredit
    iprop(blk c (vXS j) (up3 ((xH c r).view.read (Elt F) (m ((c : Thread nD τ).loc main_arg0)))) ∗ xHeld m c r)
/-- The copy of columns `f` into slot `j` under way. -/
def wFly (f : Fin 4) (j : Fin 2) : sProp 𝕄 :=
  Flight (countersEmb (U := UU)) (c : Thread nD τ) (.dma (wSem j)) () (wS 0).view.dmaCredit
    iprop(blk c (vWS j) (up3 ((wH f).view.read (Elt F) (m ((c : Thread nD τ).loc main_arg1)))) ∗ wHeld m c f)

/-- Starting the copy of rows `r` into slot `j`. -/
theorem startX_blk (r : Fin 8) (j : Fin 3) :
    iprop(xHeld m c r ∗ any c (vXS j) ∗ semVal (xCell c j) 0) ⊢ iprop((xFly m c r j -∗ Q ⟨⟩) -∗ WP c (startX c r j) Q) := by
  unfold xHeld any blk
  iintro ⟨Hs, ⟨%fd, Hd⟩, Hv⟩ Hk
  unfold startX
  iapply (Transfers.wp_dmaLocal (countersEmb (U := UU)) 𝒱₀ (c : Thread nD τ) none (src := xH c r) (dst := xS j) (sm := .dma (xSem j))
    (q := fullShare) (fs := m ((c : Thread nD τ).loc main_arg0)) (Sd := (xS j).view.set) (fd := (vXS j).rep fd)
    () (xS 0).view.dmaCredit rfl (View.dmaCredit_pos _ (by decide)) subset_rfl) $$ [Hs Hd Hv]
  · isplitl [Hs]; · iexact Hs
    isplitl [Hd]; · rw [View.set_reshape]; iexact Hd
    iexact Hv
  iintro H
  rw [wp_ret]; imodintro
  iapply Hk
  unfold xFly
  iapply (Flight_mono (countersEmb (U := UU)) (c : Thread nD τ) (D := _) (D' := _) (sep_mono_left (by
    rw [View.set_reshape]
    exact blk_of_read c (vXS j) (read_write_up (vXS j) _ _ _)))) $$ H

/-- Starting the copy of columns `f` into slot `j`. -/
theorem startW_blk (f : Fin 4) (j : Fin 2) :
    iprop(wHeld m c f ∗ any c (vWS j) ∗ semVal (wCell c j) 0) ⊢ iprop((wFly m c f j -∗ Q ⟨⟩) -∗ WP c (startW f j) Q) := by
  unfold wHeld any blk
  iintro ⟨Hs, ⟨%fd, Hd⟩, Hv⟩ Hk
  unfold startW
  iapply (Transfers.wp_dmaLocal (countersEmb (U := UU)) 𝒱₀ (c : Thread nD τ) none (src := wH f) (dst := wS j) (sm := .dma (wSem j))
    (q := fullShare) (fs := m ((c : Thread nD τ).loc main_arg1)) (Sd := (wS j).view.set) (fd := (vWS j).rep fd)
    () (wS 0).view.dmaCredit rfl (View.dmaCredit_pos _ (by decide)) subset_rfl) $$ [Hs Hd Hv]
  · isplitl [Hs]; · iexact Hs
    isplitl [Hd]; · rw [View.set_reshape]; iexact Hd
    iexact Hv
  iintro H
  rw [wp_ret]; imodintro
  iapply Hk
  unfold wFly
  iapply (Flight_mono (countersEmb (U := UU)) (c : Thread nD τ) (D := _) (D' := _) (sep_mono_left (by
    rw [View.set_reshape]
    exact blk_of_read c (vWS j) (read_write_up (vWS j) _ _ _)))) $$ H

/-- Waiting for rows `r` and storing them as bf16: the rows of `x` are whole again, the slot and its cell free. -/
theorem castX_blk (r : Fin 8) (j : Fin 3) (l : List (Fin 4 × Fin 7)) :
    iprop(levAts L lv ∗ xFly m c r j ∗ any c (vX c r) ∗ owing c l)
      ⊢ iprop(((blk c (vX c r) (xv m c r) ∗ xHeld m c r ∗ any c (vXS j) ∗ semVal (xCell c j) 0 ∗ owing c l) -∗ Q ⟨⟩) -∗ WP c (castX c r j) Q) := by
  have hmw : (levAts L lv : sProp 𝕄) ⊢ MayWait (c : Thread nD τ) (.dma (xSem j)) () (owe c l) :=
    mayWait_owe c _ l 0 (le_of_eq (lv_dma c _ (csem_ne_x j))) (above_zero l)
  unfold castX owing
  simp only [WP_bind]
  iintro ⟨#Hlev, Hf, Hx, ⟨%W, HO⟩⟩ Hk
  unfold xFly
  iapply (Transfers.wp_waitLocalO (countersEmb (U := UU)) 𝒱₀ (c : Thread nD τ) none () (N := (xS 0).view.dmaCredit) (dstw := xS j) rfl (O := owe c l) (W := W)) $$ [Hf HO]
  · isplitl [Hf]; · iexact Hf
    isplitl [HO]; · iexact HO
    iapply hmw; iexact Hlev
  iintro ⟨⟨Hb, Hh⟩, Hv, HO⟩
  rw [wp_ret]; imodintro
  iapply (load_blk c) $$ Hb
  iintro Hb
  unfold any
  icases Hx with ⟨%u, Hx⟩
  iapply (load_blk c) $$ Hx
  iintro Hx
  iapply (store_blk c) $$ [Hx]
  · iapply any_intro $$ Hx
  iintro Hx
  iapply Hk
  isplitl [Hx]; · iexact Hx
  isplitl [Hh]; · iexact Hh
  isplitl [Hb]; · iexists _; iexact Hb
  isplitl [Hv]; · iexact Hv
  iexists _; iexact HO

/-- Waiting for columns `f` and storing them as bf16. -/
theorem castW_blk (f : Fin 4) (j : Fin 2) (l : List (Fin 4 × Fin 7)) :
    iprop(levAts L lv ∗ wFly m c f j ∗ any c (vW f) ∗ owing c l)
      ⊢ iprop(((blk c (vW f) (wv m c f) ∗ wHeld m c f ∗ any c (vWS j) ∗ semVal (wCell c j) 0 ∗ owing c l) -∗ Q ⟨⟩) -∗ WP c (castW f j) Q) := by
  have hmw : (levAts L lv : sProp 𝕄) ⊢ MayWait (c : Thread nD τ) (.dma (wSem j)) () (owe c l) :=
    mayWait_owe c _ l 0 (le_of_eq (lv_dma c _ (csem_ne_w j))) (above_zero l)
  unfold castW owing
  simp only [WP_bind]
  iintro ⟨#Hlev, Hf, Hx, ⟨%W, HO⟩⟩ Hk
  unfold wFly
  iapply (Transfers.wp_waitLocalO (countersEmb (U := UU)) 𝒱₀ (c : Thread nD τ) none () (N := (wS 0).view.dmaCredit) (dstw := wS j) rfl (O := owe c l) (W := W)) $$ [Hf HO]
  · isplitl [Hf]; · iexact Hf
    isplitl [HO]; · iexact HO
    iapply hmw; iexact Hlev
  iintro ⟨⟨Hb, Hh⟩, Hv, HO⟩
  rw [wp_ret]; imodintro
  iapply (load_blk c) $$ Hb
  iintro Hb
  unfold any
  icases Hx with ⟨%u, Hx⟩
  iapply (load_blk c) $$ Hx
  iintro Hx
  iapply (store_blk c) $$ [Hx]
  · iapply any_intro $$ Hx
  iintro Hx
  iapply Hk
  isplitl [Hx]; · iexact Hx
  isplitl [Hh]; · iexact Hh
  isplitl [Hb]; · iexists _; iexact Hb
  isplitl [Hv]; · iexact Hv
  iexists _; iexact HO

/-! ## The copy out -/

/-- The copy out of columns `f` under way, `v` being what they hold. -/
def oFly (f : Fin 4) (v : Vec F S512x512 .f32) : sProp 𝕄 :=
  Flight (countersEmb (U := UU)) (c : Thread nD τ) (.dma (oSem f)) () (oH 0).view.dmaCredit iprop(blk c (vH f) v ∗ blk c (vO f) v)

/-- Starting the copy out. -/
theorem startO_blk (f : Fin 4) (v : Vec F S512x512 .f32) {h₁ : (oV f).view.WordExact} {h₂ : (oH f).view.WordExact}
    {hs : DmaTarget.Typed (nD := nD) (τ := τ) (p := .tc) .vmem (.dma (oSem f)) (.here (oH f))} :
    iprop(blk c (vO f) v ∗ any c (vH f) ∗ semVal (oCell c f) 0)
      ⊢ iprop((oFly c f v -∗ Q ⟨⟩) -∗ WP c (Prog.lift (.enqueueDma (oV f) (.here (oH f)) (.dma (oSem f)) h₁ h₂ hs)) Q) := by
  unfold any blk
  iintro ⟨Hs, ⟨%fd, Hd⟩, Hv⟩ Hk
  iapply (Transfers.wp_dmaLocal (countersEmb (U := UU)) 𝒱₀ (c : Thread nD τ) none (src := oV f) (dst := oH f) (sm := .dma (oSem f))
    (q := fullShare) (fs := (vO f).rep v) (Sd := (oH f).view.set) (fd := (vH f).rep fd)
    () (oH 0).view.dmaCredit rfl (View.dmaCredit_pos _ (by decide)) subset_rfl) $$ [Hs Hd Hv]
  · isplitl [Hs]; · iexact Hs
    isplitl [Hd]; · iexact Hd
    iexact Hv
  iintro H
  rw [wp_ret]; imodintro
  iapply Hk
  unfold oFly
  iapply (Flight_mono (countersEmb (U := UU)) (c : Thread nD τ) (D := _) (D' := _) (sep_mono_left
    (blk_of_read c (vH f) ((View.read_write_univ _ _).trans (View.read_rep (vO f) v))))) $$ H

/-- Waiting for the copy out. -/
theorem outW_blk (f : Fin 4) (v : Vec F S512x512 .f32) (l : List (Fin 4 × Fin 7)) :
    iprop(levAts L lv ∗ oFly c f v ∗ owing c l)
      ⊢ iprop(((blk c (vH f) v ∗ blk c (vO f) v ∗ semVal (oCell c f) 0 ∗ owing c l) -∗ Q ⟨⟩) -∗ WP c (outW f) Q) := by
  have hmw : (levAts L lv : sProp 𝕄) ⊢ MayWait (c : Thread nD τ) (.dma (oSem f)) () (owe c l) :=
    mayWait_owe c _ l 0 (le_of_eq (lv_dma c _ (csem_ne_o f))) (above_zero l)
  unfold outW owing
  iintro ⟨#Hlev, Hf, ⟨%W, HO⟩⟩ Hk
  unfold oFly
  iapply (Transfers.wp_waitLocalO (countersEmb (U := UU)) 𝒱₀ (c : Thread nD τ) none () (N := (oH 0).view.dmaCredit) (dstw := oH f) rfl (O := owe c l) (W := W)) $$ [Hf HO]
  · isplitl [Hf]; · iexact Hf
    isplitl [HO]; · iexact HO
    iapply hmw; iexact Hlev
  iintro ⟨⟨Hb, Hh⟩, Hv, HO⟩
  rw [wp_ret]; imodintro
  iapply Hk
  isplitl [Hb]; · iexact Hb
  isplitl [Hh]; · iexact Hh
  isplitl [Hv]; · iexact Hv
  iexists _; iexact HO

/-! ## The scale words -/

/-- The one-word rectangle of a scale. -/
abbrev rect1 : Rect S1 := Rect.unit (s := S1) ![0] S1.size inb_S1_S1_0

/-- The word of a scale's buffer. -/
def wordOf (M : Memref sig .tc .smem S1 .f32) (X : M.view.ty.Contents (Elt F)) : Elt F .f32 :=
  (M.access rect1).read (Elt F) X (Shape.Idx.first (numel1_S1.symm ▸ Nat.one_pos))

/-- Reading a scale. -/
theorem word_blk (M : Memref sig .tc .smem S1 .f32) (X : Buf (Elt F) (M.view.loc (c : Thread nD τ))) {h1 : rect1.shape.numel = 1} {hp : EltTy.packing .f32 = 1}
    {Q : Elt F .f32 → sProp 𝕄} :
    (M.view.loc (c : Thread nD τ) ↦{fullShare} X)
      ⊢ iprop(((M.view.loc (c : Thread nD τ) ↦{fullShare} X) -∗ Q (wordOf M X)) -∗ WP c (smemLoad M rect1 h1 hp) Q) := by
  unfold wordOf
  iintro H Hk
  unfold smemLoad
  iapply (wp_smemLoadElt 𝒱₀ (c : Thread nD τ) none Set.univ (m := M) (r := rect1) (S := Finset.univ) (Finset.subset_univ _)) $$ H
  iintro H
  rw [wp_ret]; imodintro
  iapply Hk; iexact H

/-! ## The barrier -/

theorem dev1_eq : (⟨k0_dev1 c, k0_dev1_lt c⟩ : Dev nD) = prv c := Fin.ext (k0_dev1_eq c)
theorem dev2_eq : (⟨k0_dev2 c, k0_dev2_lt c⟩ : Dev nD) = nxt c := Fin.ext (k0_dev2_eq c)

/-- What device `c` owes at the start: every hop's arrival, and a unit to each neighbour's barrier. -/
def owe0 (l : List (Fin 4 × Fin 7)) : CellTallies nD τ sig Unit :=
  owe c l + tallyAt (barCell (nxt c)) () 1 + tallyAt (barCell (prv c)) () 1

/-- The barrier: the own slots are handed to the neighbours that fill them, the neighbours' slots come back. -/
theorem meet_blk (l : List (Fin 4 × Fin 7)) (W : Waits sig Unit) :
    iprop(records m K ∗ levAts L lv ∗ owes (c : Thread nD τ) (owe0 c l) W
        ∗ (slots c 0 ∗ slots c 1 ∗ slots c 2 ∗ slots c 3)
        ∗ cred (tallyAt (barCell c) () 2) ∗ atPos ER (barCell c) 0 ∅ 0
        ∗ dutyTok ER (barCell (prv c)) 0 true ∗ dutyTok ER (barCell (nxt c)) 0 false)
      ⊢ iprop((((slots (nxt c) 0 ∗ slots (nxt c) 1) ∗ (slots (prv c) 2 ∗ slots (prv c) 3) ∗ semVal (barCell c) 0 ∗ owing c l) -∗ Q ⟨⟩)
          -∗ WP c (meet c) Q) := by
  have hmw : (levAts L lv : sProp 𝕄) ⊢ MayWait (c : Thread nD τ) (.reg barSem) () (owe c l) :=
    mayWait_owe c _ l 1 (le_of_eq (lv_bar c ())) fun p _ => by omega
  have hpp : (Rd m).payload (barCell (prv c)) 0 true = iprop(slots c 0 ∗ slots c 1) := by
    rw [payload_at m (prv c, none)]
    show iprop(slots (nxt (prv c)) 0 ∗ slots (nxt (prv c)) 1) = _
    rw [nxt_prv]
  have hpn : (Rd m).payload (barCell (nxt c)) 0 false = iprop(slots c 2 ∗ slots c 3) := by
    rw [payload_at m (nxt c, none)]
    show iprop(slots (prv (nxt c)) 2 ∗ slots (prv (nxt c)) 3) = _
    rw [prv_nxt]
  unfold meet
  simp only [WP_bind, dev1_eq, dev2_eq]
  unfold owe0 owing
  iintro ⟨#HR, #Hlev, HO, ⟨Hs0, Hs1, Hs2, Hs3⟩, Hc, Hat, Htp, Htn⟩ Hk
  ihave #HIp := (inv_at m K (prv c, none)) $$ HR
  ihave #HIn := (inv_at m K (nxt c, none)) $$ HR
  ihave #HI := (inv_at m K (c, none)) $$ HR
  ihave #Hrp := (reached_at m K (prv c, none)) $$ HR
  ihave #Hrn := (reached_at m K (nxt c, none)) $$ HR
  iapply (Rounds.wp_signal 𝒱₀ ER (Rd m) (c : Thread nD τ) none (dst := (prv c : Thread nD τ)) (κ := K (prv c, none)) (d := true)
      (by rw [duties_at m (prv c, none)]; exact Finset.mem_univ _) ((amount_at m (prv c, none) true).trans rfl) () (owe c l + tallyAt (barCell (nxt c)) () 1) rfl)
    $$ [HO Htp Hs0 Hs1]
  · isplitr; · iexact HIp
    isplitl [HO]; · iexact HO
    isplitl [Htp]; · iexact Htp
    isplitl [Hs0 Hs1]
    · rw [hpp]
      isplitl [Hs0] <;> iassumption
    iexact Hrp
  iintro HO
  rw [wp_ret]; imodintro
  iapply (Rounds.wp_signal 𝒱₀ ER (Rd m) (c : Thread nD τ) none (dst := (nxt c : Thread nD τ)) (κ := K (nxt c, none)) (d := false)
      (by rw [duties_at m (nxt c, none)]; exact Finset.mem_univ _) ((amount_at m (nxt c, none) false).trans rfl) () (owe c l) rfl)
    $$ [HO Htn Hs2 Hs3]
  · isplitr; · iexact HIn
    isplitl [HO]; · iexact HO
    isplitl [Htn]; · iexact Htn
    isplitl [Hs2 Hs3]
    · rw [hpn]
      isplitl [Hs2] <;> iassumption
    iexact Hrn
  iintro HO
  rw [wp_ret]; imodintro
  iapply (Rounds.wp_wait_rest_token 𝒱₀ ER (Rd m) (c : Thread nD τ) none (κ := K (c, none))
      (wpE_semWait_eq 𝒱₀ (c : Thread nD τ) none Set.univ) (Set.mem_univ _) () (O := owe c l) (W := W) (R := 0) (m := 0) (T := ∅)
      (by rw [expect_bar m c]; decide)) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (Entails.of_eq (rest_bar m c)) $$ Hpay
  icases Hp with ⟨Hl, Hr⟩
  imod (Rounds.cell_close ER (Rd m) (Set.mem_univ (K (c, none))) (fun h => h) (R := 0 + 1) (duties_later m _)) $$ [Hat] with Hz
  · isplitr; · iexact HI
    iexact Hat
  rw [wp_ret]; imodintro
  iapply Hk
  isplitl [Hr]; · iexact Hr
  isplitl [Hl]; · iexact Hl
  isplitl [Hz]; · iexact Hz
  iexists _; iexact HO

end Cert.KernelIdeal.Ring
-- ==== Proof.Hops.lean ====
module

public import proofs.«01_k».proof.Proof.Local

/-! One hop of one flow at a time: what a flow holds before each of its hops, and that the hop takes it to the next. -/

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ) (c : Dev nD) (f : Fin 4)
variable {Q : PUnit.{1} → sProp (MT nD τ sig Unit (Elt F) ℕ UU ℕ)}

/-! ## What a flow holds -/

/-- What every device knows: the records of the cells and the levels. -/
def ctx : sProp 𝕄 := iprop(records m K ∗ levAts L lv)
instance ctx_persistent : BI.Persistent (ctx m K) := by unfold ctx; infer_instance

/-- What sending hop `s` will take. -/
def todoS (s : Fin 7) : sProp 𝕄 := iprop(sendToks c f s ∗ atPos ER (sCell c f s) 0 ∅ 0)
/-- What receiving hop `s` will take. -/
def todoR (s : Fin 7) : sProp 𝕄 := iprop(cred (tallyAt (rCell c f s) () (N s)) ∗ atPos ER (rCell c f s) 0 ∅ 0)
/-- Hop `s` has been sent and its departure not yet waited for. -/
def sent (s : Fin 7) : sProp 𝕄 := iprop(cred (tallyAt (sCell c f s) () (N s)) ∗ atPos ER (sCell c f s) 0 ∅ 0)
/-- Hop `s` has been received. -/
def got (s : Fin 7) : sProp 𝕄 := iprop(rcvP m c f s ∗ semVal (rCell c f s) 0)

/-- What the flow's step number `k` takes: the slot on the neighbour it fills, what sending and receiving take, and
the own slot sent from if it is used for the first time. -/
def need : Fin 8 → sProp 𝕄
  | 0 => iprop(any (dst f c) (v5 f 0) ∗ todoS c f 0 ∗ any c (v4 f 0))
  | 1 => iprop(any (dst f c) (v5 f 1) ∗ todoS c f 1 ∗ todoR c f 0 ∗ any c (v4 f 1))
  | 2 => iprop(any (dst f c) (v7 f 0) ∗ todoS c f 2 ∗ todoR c f 1 ∗ any c (v6 f 0))
  | 3 => iprop(any (dst f c) (v7 f 1) ∗ todoS c f 3 ∗ todoR c f 2 ∗ any c (v6 f 1))
  | 4 => iprop(any (dst f c) (v7 f 2) ∗ todoS c f 4 ∗ todoR c f 3)
  | 5 => iprop(any (dst f c) (v7 f 3) ∗ todoS c f 5 ∗ todoR c f 4)
  | 6 => iprop(any (dst f c) (v7 f 4) ∗ todoS c f 6 ∗ todoR c f 5)
  | 7 => todoR c f 6

/-- What the steps of the list take. -/
def rest : List (Fin 8) → sProp 𝕄
  | [] => iprop(emp)
  | k :: l => iprop(need c f k ∗ rest l)

/-- What the flow has put away after hop 1, -/
def put3 : sProp 𝕄 := iprop(sent c f 0 ∗ sent c f 1 ∗ got m c f 0 ∗ got m c f 1)
/-- after hop 2, -/
def put4 : sProp 𝕄 := iprop(put3 m c f ∗ got m c f 2)
/-- after hop 3, -/
def put5 : sProp 𝕄 := iprop(put4 m c f ∗ got m c f 3 ∗ semVal (sCell c f 2) 0)
/-- after hop 4, -/
def put6 : sProp 𝕄 := iprop(put5 m c f ∗ got m c f 4 ∗ semVal (sCell c f 3) 0)
/-- after hop 5. -/
def put7 : sProp 𝕄 := iprop(put6 m c f ∗ got m c f 5 ∗ semVal (sCell c f 4) 0)

/-- What the flow holds before its step number `k`; at 8, before it is drained. -/
def flow : Fin 9 → sProp 𝕄
  | 0 => rest c f [0, 1, 2, 3, 4, 5, 6, 7]
  | 1 => iprop(sent c f 0 ∗ rest c f [1, 2, 3, 4, 5, 6, 7])
  | 2 => iprop(sent c f 0 ∗ sent c f 1 ∗ got m c f 0 ∗ rest c f [2, 3, 4, 5, 6, 7])
  | 3 => iprop(put3 m c f ∗ sent c f 2 ∗ rest c f [3, 4, 5, 6, 7])
  | 4 => iprop(put4 m c f ∗ sent c f 2 ∗ sent c f 3 ∗ rest c f [4, 5, 6, 7])
  | 5 => iprop(put5 m c f ∗ sent c f 3 ∗ sent c f 4 ∗ rest c f [5, 6, 7])
  | 6 => iprop(put6 m c f ∗ sent c f 4 ∗ sent c f 5 ∗ rest c f [6, 7])
  | 7 => iprop(put7 m c f ∗ sent c f 5 ∗ sent c f 6 ∗ rest c f [7])
  | 8 => iprop(put7 m c f ∗ sent c f 5 ∗ sent c f 6 ∗ got m c f 6)

/-! ## Arrivals and departures -/

theorem N8 (s : Fin 7) (h : s.val < 2) : (r8 0 0).view.dmaCredit = N s := by unfold N; rw [if_pos h]
theorem NB (s : Fin 7) (h : ¬ s.val < 2) : (rB 0 0).view.dmaCredit = N s := by unfold N; rw [if_neg h]

theorem credit_r8 (f : Fin 4) (j : Fin 2) : (r8 f j).view.dmaCredit = (r8 0 0).view.dmaCredit := rfl
theorem credit_s8 (f : Fin 4) (j : Fin 2) : (s8 f j).view.dmaCredit = (r8 0 0).view.dmaCredit := rfl
theorem credit_rB (f : Fin 4) (j : Fin 5) : (rB f j).view.dmaCredit = (rB 0 0).view.dmaCredit := rfl
theorem credit_sB (f : Fin 4) (j : Fin 2) : (sB f j).view.dmaCredit = (rB 0 0).view.dmaCredit := rfl

/-- An fp8 arrival. -/
theorem arrive8_blk (s : Fin 7) (j : Fin 2) (l : List (Fin 4 × Fin 7)) (h : s.val < 2) (hl : ∀ p ∈ l, s.val < p.2.val) :
    ctx m K ⊢ iprop(todoR c f s -∗ owing c l -∗ ((rcvP m c f s ∗ semVal (rCell c f s) 0 ∗ owing c l) -∗ Q ⟨⟩) -∗ WP c (arrive8 f s j) Q) := by
  unfold ctx todoR arrive8
  iintro ⟨#HR, #Hlev⟩ ⟨Hc, Hat⟩ HO Hk
  iapply (wait_cell m K c true f s l (sem := rSem f s) (srcw := s8 f j) (dstw := r8 f j) (h₁ := s8_words f j) (h₂ := r8_words f j) rfl ((credit_r8 f j).trans (N8 s h)) (fun p hp => Nat.add_lt_add_right (hl p hp) 2)) $$ [Hc Hat HO]
  · isplitr; · iexact HR
    isplitr; · iexact Hlev
    isplitl [Hc]; · iexact Hc
    isplitl [Hat] <;> iassumption
  iexact Hk

/-- A bf16 arrival. -/
theorem arriveB_blk (s : Fin 7) (i : Fin 2) (j : Fin 5) (l : List (Fin 4 × Fin 7)) (h : ¬ s.val < 2) (hl : ∀ p ∈ l, s.val < p.2.val) :
    ctx m K ⊢ iprop(todoR c f s -∗ owing c l -∗ ((rcvP m c f s ∗ semVal (rCell c f s) 0 ∗ owing c l) -∗ Q ⟨⟩) -∗ WP c (arriveB f s i j) Q) := by
  unfold ctx todoR arriveB
  iintro ⟨#HR, #Hlev⟩ ⟨Hc, Hat⟩ HO Hk
  iapply (wait_cell m K c true f s l (sem := rSem f s) (srcw := sB f i) (dstw := rB f j) (h₁ := sB_words f i) (h₂ := rB_words f j) rfl ((credit_rB f j).trans (NB s h)) (fun p hp => Nat.add_lt_add_right (hl p hp) 2)) $$ [Hc Hat HO]
  · isplitr; · iexact HR
    isplitr; · iexact Hlev
    isplitl [Hc]; · iexact Hc
    isplitl [Hat] <;> iassumption
  iexact Hk

/-- An fp8 departure. -/
theorem depart8_blk (s : Fin 7) (j : Fin 2) (l : List (Fin 4 × Fin 7)) (h : s.val < 2) :
    ctx m K ⊢ iprop(sent c f s -∗ owing c l -∗ ((sndP m c f s ∗ semVal (sCell c f s) 0 ∗ owing c l) -∗ Q ⟨⟩) -∗ WP c (depart8 f s j) Q) := by
  unfold ctx sent depart8
  iintro ⟨#HR, #Hlev⟩ ⟨Hc, Hat⟩ HO Hk
  iapply (wait_cell m K c false f s l (sem := sSem f s) (srcw := r8 f j) (dstw := s8 f j) (h₁ := r8_words f j) (h₂ := s8_words f j) rfl ((credit_s8 f j).trans (N8 s h)) (above_zero l)) $$ [Hc Hat HO]
  · isplitr; · iexact HR
    isplitr; · iexact Hlev
    isplitl [Hc]; · iexact Hc
    isplitl [Hat] <;> iassumption
  iexact Hk

/-- A bf16 departure. -/
theorem departB_blk (s : Fin 7) (i : Fin 2) (j : Fin 5) (l : List (Fin 4 × Fin 7)) (h : ¬ s.val < 2) :
    ctx m K ⊢ iprop(sent c f s -∗ owing c l -∗ ((sndP m c f s ∗ semVal (sCell c f s) 0 ∗ owing c l) -∗ Q ⟨⟩) -∗ WP c (departB f s i j) Q) := by
  unfold ctx sent departB
  iintro ⟨#HR, #Hlev⟩ ⟨Hc, Hat⟩ HO Hk
  iapply (wait_cell m K c false f s l (sem := sSem f s) (srcw := rB f j) (dstw := sB f i) (h₁ := rB_words f j) (h₂ := sB_words f i) rfl ((credit_sB f i).trans (NB s h)) (above_zero l)) $$ [Hc Hat HO]
  · isplitr; · iexact HR
    isplitr; · iexact Hlev
    isplitl [Hc]; · iexact Hc
    isplitl [Hat] <;> iassumption
  iexact Hk

/-! ## Sends -/

/-- The slot is replaced and sent, fp8. -/
theorem fill8 (n : Dev nD) (hn : n = dst f c) (s : Fin 7) (j : Fin 2) (l : List (Fin 4 × Fin 7)) (v : Vec F S1x1x512x512 .fp8e4m3) (h : s.val < 2)
    (hs : sndP m c f s = blk c (v4 f j) v) (hr : rcvP m (dst f c) f s = blk (dst f c) (v5 f j) v) :
    ctx m K ⊢ iprop(any c (v4 f j) -∗ any (dst f c) (v5 f j) -∗ todoS c f s -∗ owing c ((f, s) :: l)
      -∗ ((sent c f s ∗ owing c l) -∗ Q ⟨⟩) -∗ WP c (stS8 f j v >>= fun _ => send8 n f s j) Q) := by
  unfold ctx todoS sent
  rw [WP_bind]
  iintro ⟨#HR, #Hlev⟩ Ha Hd ⟨Ht, Hat⟩ HO Hk
  iapply (replace_blk c) $$ Ha
  iintro Ha
  iapply (send8_blk m K c f s j l v n hn (N8 s h) hs hr) $$ [Ha Hd Ht HO]
  · isplitr; · iexact HR
    isplitl [Ha]; · iexact Ha
    isplitl [Hd]; · iexact Hd
    isplitl [Ht] <;> iassumption
  iintro ⟨Hc, HO⟩
  iapply Hk
  isplitl [Hc Hat]
  · isplitl [Hc] <;> iassumption
  iexact HO

/-- The slot is replaced and sent, bf16. -/
theorem fillB (n : Dev nD) (hn : n = dst f c) (s : Fin 7) (i : Fin 2) (j : Fin 5) (l : List (Fin 4 × Fin 7)) (v : Vec F S1x1x512x512 .bf16) (h : ¬ s.val < 2)
    (hs : sndP m c f s = blk c (v6 f i) v) (hr : rcvP m (dst f c) f s = blk (dst f c) (v7 f j) v) :
    ctx m K ⊢ iprop(any c (v6 f i) -∗ any (dst f c) (v7 f j) -∗ todoS c f s -∗ owing c ((f, s) :: l)
      -∗ ((sent c f s ∗ owing c l) -∗ Q ⟨⟩) -∗ WP c (stSB f i v >>= fun _ => sendB n f s i j) Q) := by
  unfold ctx todoS sent
  rw [WP_bind]
  iintro ⟨#HR, #Hlev⟩ Ha Hd ⟨Ht, Hat⟩ HO Hk
  iapply (replace_blk c) $$ Ha
  iintro Ha
  iapply (sendB_blk m K c f s i j l v n hn (NB s h) hs hr) $$ [Ha Hd Ht HO]
  · isplitr; · iexact HR
    isplitl [Ha]; · iexact Ha
    isplitl [Hd]; · iexact Hd
    isplitl [Ht] <;> iassumption
  iintro ⟨Hc, HO⟩
  iapply Hk
  isplitl [Hc Hat]
  · isplitl [Hc] <;> iassumption
  iexact HO

/-! ## The hops -/

/-- Rows `r` of `x` as bf16, in place. -/
def xIn (r : Fin 8) : sProp 𝕄 := blk c (vX c r) (xv m c r)
/-- Columns `f` of `w` as bf16, in place. -/
def wIn : sProp 𝕄 := blk c (vW f) (wv m c f)

/-- The first product of a flow. -/
theorem first_blk (n : Dev nD) (hn : n = dst f c) (r : Fin 8) (hr : r = row f 0) (l : List (Fin 4 × Fin 7)) :
    ctx m K ⊢ iprop(xIn m c r -∗ wIn m c f -∗ flow m c f 0 -∗ owing c ((f, 0) :: l)
      -∗ ((xIn m c r ∗ wIn m c f ∗ flow m c f 1 ∗ owing c l) -∗ Q ⟨⟩) -∗ WP c (first c n f r) Q) := by
  subst hr
  unfold first ldX ldW
  rw [WP_bind]; simp only [WP_bind c (Prog.lift (.load (Memref.whole cc0_scratch3) (colRect f).toLoadRect (View.loadsAt_vmem h_S512x512)))]
  show _ ⊢ iprop(_ -∗ _ -∗ (need c f 0 ∗ rest c f _) -∗ _ -∗ (iprop(_ ∗ _ ∗ (sent c f 0 ∗ rest c f _) ∗ _) -∗ _) -∗ _)
  unfold need xIn wIn
  iintro #HC Hx Hw ⟨⟨Hd, Ht, Ha⟩, Hrest⟩ HO Hk
  iapply (load_blk c) $$ Hx; iintro Hx
  iapply (load_blk c) $$ Hw; iintro Hw
  iapply (fill8 m K c f n hn 0 0 l (acc0 m c f) (by decide) rfl (by show blk _ _ (acc0 m (src f (dst f c)) f) = _; rw [src_dst])) $$ HC Ha Hd Ht HO
  iintro ⟨Hs, HO⟩
  iapply Hk
  isplitl [Hx]; · iexact Hx
  isplitl [Hw]; · iexact Hw
  isplitl [Hs Hrest]
  · isplitl [Hs] <;> iassumption
  iexact HO

/-- Hop 0. -/
theorem hop0_blk (n : Dev nD) (hn : n = dst f c) (r : Fin 8) (hr : r = row f 1) (l : List (Fin 4 × Fin 7)) (hl : ∀ p ∈ (f, (1 : Fin 7)) :: l, (0 : Fin 7).val < p.2.val) :
    ctx m K ⊢ iprop(xIn m c r -∗ wIn m c f -∗ flow m c f 1 -∗ owing c ((f, 1) :: l)
      -∗ ((xIn m c r ∗ wIn m c f ∗ flow m c f 2 ∗ owing c l) -∗ Q ⟨⟩) -∗ WP c (hop0 c n f r) Q) := by
  subst hr
  unfold hop0 ldX ldW ldR8
  rw [WP_bind]; simp only [WP_bind c (Prog.lift (.load _ _ _)), WP_bind c (arrive8 _ _ _)]
  show _ ⊢ iprop(_ -∗ _ -∗ (sent c f 0 ∗ need c f 1 ∗ rest c f _) -∗ _ -∗ (iprop(_ ∗ _ ∗ (sent c f 0 ∗ sent c f 1 ∗ got m c f 0 ∗ rest c f _) ∗ _) -∗ _) -∗ _)
  unfold need xIn wIn got
  iintro #HC Hx Hw ⟨Hs0, ⟨Hd, Ht, Hr, Ha⟩, Hrest⟩ HO Hk
  iapply (load_blk c) $$ Hx; iintro Hx
  iapply (load_blk c) $$ Hw; iintro Hw
  iapply (arrive8_blk m K c f 0 0 _ (by decide) hl) $$ HC Hr HO
  iintro ⟨Hp, Hz, HO⟩
  ihave Hp := (Entails.of_eq (show rcvP m c f 0 = blk c (v5 f 0) (acc0 m (src f c) f) from rfl)) $$ Hp
  iapply (load_blk c) $$ Hp; iintro Hp
  iapply (fill8 m K c f n hn 1 1 l (acc1 m c f) (by decide) rfl (by show blk _ _ (acc1 m (src f (dst f c)) f) = _; rw [src_dst])) $$ HC Ha Hd Ht HO
  iintro ⟨Hs, HO⟩
  iapply Hk
  isplitl [Hx]; · iexact Hx
  isplitl [Hw]; · iexact Hw
  isplitl [Hs0 Hs Hp Hz Hrest]
  · isplitl [Hs0]; · iexact Hs0
    isplitl [Hs]; · iexact Hs
    isplitl [Hp Hz]
    · isplitl [Hp]; · iapply (Entails.of_eq (show blk c (v5 f 0) (acc0 m (src f c) f) = rcvP m c f 0 from rfl)) $$ Hp
      iexact Hz
    iexact Hrest
  iexact HO

/-- Hop 1. -/
theorem hop1_blk (n : Dev nD) (hn : n = dst f c) (r : Fin 8) (hr : r = row f 2) (l : List (Fin 4 × Fin 7)) (hl : ∀ p ∈ (f, (2 : Fin 7)) :: l, (1 : Fin 7).val < p.2.val) :
    ctx m K ⊢ iprop(xIn m c r -∗ wIn m c f -∗ flow m c f 2 -∗ owing c ((f, 2) :: l)
      -∗ ((xIn m c r ∗ wIn m c f ∗ flow m c f 3 ∗ owing c l) -∗ Q ⟨⟩) -∗ WP c (hop1 c n f r) Q) := by
  subst hr
  unfold hop1 ldX ldW ldR8
  rw [WP_bind]; simp only [WP_bind c (Prog.lift (.load _ _ _)), WP_bind c (arrive8 _ _ _)]
  show _ ⊢ iprop(_ -∗ _ -∗ (sent c f 0 ∗ sent c f 1 ∗ got m c f 0 ∗ need c f 2 ∗ rest c f _) -∗ _ -∗ (iprop(_ ∗ _ ∗ (put3 m c f ∗ sent c f 2 ∗ rest c f _) ∗ _) -∗ _) -∗ _)
  unfold need xIn wIn put3
  iintro #HC Hx Hw ⟨Hs0, Hs1, Hg, ⟨Hd, Ht, Hr, Ha⟩, Hrest⟩ HO Hk
  iapply (load_blk c) $$ Hx; iintro Hx
  iapply (load_blk c) $$ Hw; iintro Hw
  iapply (arrive8_blk m K c f 1 1 _ (by decide) hl) $$ HC Hr HO
  iintro ⟨Hp, Hz, HO⟩
  ihave Hp := (Entails.of_eq (show rcvP m c f 1 = blk c (v5 f 1) (acc1 m (src f c) f) from rfl)) $$ Hp
  iapply (load_blk c) $$ Hp; iintro Hp
  iapply (fillB m K c f n hn 2 0 0 l (acc2 m c f) (by decide) rfl (by show blk _ _ (acc2 m (src f (dst f c)) f) = _; rw [src_dst])) $$ HC Ha Hd Ht HO
  iintro ⟨Hs, HO⟩
  iapply Hk
  isplitl [Hx]; · iexact Hx
  isplitl [Hw]; · iexact Hw
  isplitl [Hs0 Hs1 Hg Hs Hp Hz Hrest]
  · isplitl [Hs0 Hs1 Hg Hp Hz]
    · isplitl [Hs0]; · iexact Hs0
      isplitl [Hs1]; · iexact Hs1
      isplitl [Hg]; · iexact Hg
      unfold got
      isplitl [Hp]; · iapply (Entails.of_eq (show blk c (v5 f 1) (acc1 m (src f c) f) = rcvP m c f 1 from rfl)) $$ Hp
      iexact Hz
    isplitl [Hs]; · iexact Hs
    iexact Hrest
  iexact HO

/-- Hop 2. -/
theorem hop2_blk (n : Dev nD) (hn : n = dst f c) (r : Fin 8) (hr : r = row f 3) (l : List (Fin 4 × Fin 7)) (hl : ∀ p ∈ (f, (3 : Fin 7)) :: l, (2 : Fin 7).val < p.2.val) :
    ctx m K ⊢ iprop(xIn m c r -∗ wIn m c f -∗ flow m c f 3 -∗ owing c ((f, 3) :: l)
      -∗ ((xIn m c r ∗ wIn m c f ∗ flow m c f 4 ∗ owing c l) -∗ Q ⟨⟩) -∗ WP c (hop2 c n f r) Q) := by
  subst hr
  unfold hop2 ldX ldW ldRB
  rw [WP_bind]; simp only [WP_bind c (Prog.lift (.load _ _ _)), WP_bind c (arriveB _ _ _ _)]
  show _ ⊢ iprop(_ -∗ _ -∗ (put3 m c f ∗ sent c f 2 ∗ need c f 3 ∗ rest c f _) -∗ _ -∗ (iprop(_ ∗ _ ∗ (put4 m c f ∗ sent c f 2 ∗ sent c f 3 ∗ rest c f _) ∗ _) -∗ _) -∗ _)
  unfold need xIn wIn put4
  iintro #HC Hx Hw ⟨Hput, Hs2, ⟨Hd, Ht, Hr, Ha⟩, Hrest⟩ HO Hk
  iapply (load_blk c) $$ Hx; iintro Hx
  iapply (load_blk c) $$ Hw; iintro Hw
  iapply (arriveB_blk m K c f 2 0 0 _ (by decide) hl) $$ HC Hr HO
  iintro ⟨Hp, Hz, HO⟩
  ihave Hp := (Entails.of_eq (show rcvP m c f 2 = blk c (v7 f 0) (acc2 m (src f c) f) from rfl)) $$ Hp
  iapply (load_blk c) $$ Hp; iintro Hp
  iapply (fillB m K c f n hn 3 1 1 l (acc3 m c f) (by decide) rfl (by show blk _ _ (acc3 m (src f (dst f c)) f) = _; rw [src_dst])) $$ HC Ha Hd Ht HO
  iintro ⟨Hs, HO⟩
  iapply Hk
  isplitl [Hx]; · iexact Hx
  isplitl [Hw]; · iexact Hw
  isplitl [Hput Hs2 Hs Hp Hz Hrest]
  · isplitl [Hput Hp Hz]
    · isplitl [Hput]; · iexact Hput
      unfold got
      isplitl [Hp]; · iapply (Entails.of_eq (show blk c (v7 f 0) (acc2 m (src f c) f) = rcvP m c f 2 from rfl)) $$ Hp
      iexact Hz
    isplitl [Hs2]; · iexact Hs2
    isplitl [Hs]; · iexact Hs
    iexact Hrest
  iexact HO

/-- Hops 3 to 5, for what they touch alone. `a` is what arrives, `b` what lies in the slot sent from. -/
theorem hopN_core (n : Dev nD) (hn : n = dst f c) (r : Fin 8) (s s₀ s₁ : Fin 7) (i i' : Fin 2) (j₀ j j₁ : Fin 5) (a b : Vec F S1x1x512x512 .bf16)
    (hs : ¬ s.val < 2) (hs₀ : ¬ s₀.val < 2) (hs₁ : ¬ s₁.val < 2) (ha : rcvP m c f s = blk c (v7 f j) a) (hb : sndP m c f s₀ = blk c (v6 f i') b)
    (l : List (Fin 4 × Fin 7)) (hl : ∀ p ∈ (f, s₁) :: l, s.val < p.2.val)
    (hsd : sndP m c f s₁ = blk c (v6 f i') (k0_pay28 (xv m c r) (wv m c f) a))
    (hrv : rcvP m (dst f c) f s₁ = blk (dst f c) (v7 f j₁) (k0_pay28 (xv m c r) (wv m c f) a)) :
    ctx m K ⊢ iprop(xIn m c r -∗ wIn m c f -∗ sent c f s₀ -∗ any (dst f c) (v7 f j₁) -∗ todoS c f s₁ -∗ todoR c f s -∗ owing c ((f, s₁) :: l)
      -∗ ((xIn m c r ∗ wIn m c f ∗ got m c f s ∗ semVal (sCell c f s₀) 0 ∗ sent c f s₁ ∗ owing c l) -∗ Q ⟨⟩) -∗ WP c (hopN c n f r s s₀ s₁ i i' j₀ j j₁) Q) := by
  unfold hopN ldX ldW ldRB
  rw [WP_bind]; simp only [WP_bind c (Prog.lift (.load _ _ _)), WP_bind c (arriveB _ _ _ _), WP_bind c (departB _ _ _ _)]
  unfold xIn wIn got
  iintro #HC Hx Hw Hs0 Hd Ht Hr HO Hk
  iapply (load_blk c) $$ Hx; iintro Hx
  iapply (load_blk c) $$ Hw; iintro Hw
  iapply (arriveB_blk m K c f s i j _ hs hl) $$ HC Hr HO
  iintro ⟨Hp, Hz, HO⟩
  iapply (departB_blk m K c f s₀ i' j₀ _ hs₀) $$ HC Hs0 HO
  iintro ⟨Ha, Hz', HO⟩
  ihave Hp := (Entails.of_eq ha) $$ Hp
  iapply (load_blk c) $$ Hp; iintro Hp
  ihave Ha := (Entails.of_eq hb) $$ Ha
  ihave Ha := (any_intro c (v6 f i') b) $$ Ha
  iapply (fillB m K c f n hn s₁ i' j₁ l _ hs₁ hsd hrv) $$ HC Ha Hd Ht HO
  iintro ⟨Hs, HO⟩
  iapply Hk
  rw [ha]
  isplitl [Hx]; · iexact Hx
  isplitl [Hw]; · iexact Hw
  isplitl [Hp Hz]
  · isplitl [Hp] <;> iassumption
  isplitl [Hz']; · iexact Hz'
  isplitl [Hs] <;> iassumption

/-- Hop 3. -/
theorem hop3_blk (n : Dev nD) (hn : n = dst f c) (r : Fin 8) (hr : r = row f 4) (l : List (Fin 4 × Fin 7)) (hl : ∀ p ∈ (f, (4 : Fin 7)) :: l, (3 : Fin 7).val < p.2.val) :
    ctx m K ⊢ iprop(xIn m c r -∗ wIn m c f -∗ flow m c f 4 -∗ owing c ((f, 4) :: l)
      -∗ ((xIn m c r ∗ wIn m c f ∗ flow m c f 5 ∗ owing c l) -∗ Q ⟨⟩) -∗ WP c (hopN c n f r 3 2 4 1 0 0 1 2) Q) := by
  subst hr
  show _ ⊢ iprop(_ -∗ _ -∗ (put4 m c f ∗ sent c f 2 ∗ sent c f 3 ∗ need c f 4 ∗ rest c f _) -∗ _ -∗ (iprop(_ ∗ _ ∗ (put5 m c f ∗ sent c f 3 ∗ sent c f 4 ∗ rest c f _) ∗ _) -∗ _) -∗ _)
  unfold need put5
  iintro #HC Hx Hw ⟨Hput, Hs, Hs', ⟨Hd, Ht, Hr⟩, Hrest⟩ HO Hk
  iapply (hopN_core m K c f n hn (row f 4) 3 2 4 1 0 0 1 2 (acc3 m (src f c) f) (acc2 m c f) (by decide) (by decide) (by decide) rfl rfl l hl rfl
    (by show blk _ _ (acc4 m (src f (dst f c)) f) = _; rw [src_dst]; rfl)) $$ HC Hx Hw Hs Hd Ht Hr HO
  iintro ⟨Hx, Hw, Hg, Hz, Hn, HO⟩
  iapply Hk
  isplitl [Hx]; · iexact Hx
  isplitl [Hw]; · iexact Hw
  isplitr [HO]
  · isplitl [Hput Hg Hz]
    · isplitl [Hput]; · iexact Hput
      isplitl [Hg] <;> iassumption
    isplitl [Hs']; · iexact Hs'
    isplitl [Hn] <;> iassumption
  iexact HO

/-- Hop 4. -/
theorem hop4_blk (n : Dev nD) (hn : n = dst f c) (r : Fin 8) (hr : r = row f 5) (l : List (Fin 4 × Fin 7)) (hl : ∀ p ∈ (f, (5 : Fin 7)) :: l, (4 : Fin 7).val < p.2.val) :
    ctx m K ⊢ iprop(xIn m c r -∗ wIn m c f -∗ flow m c f 5 -∗ owing c ((f, 5) :: l)
      -∗ ((xIn m c r ∗ wIn m c f ∗ flow m c f 6 ∗ owing c l) -∗ Q ⟨⟩) -∗ WP c (hopN c n f r 4 3 5 0 1 1 2 3) Q) := by
  subst hr
  show _ ⊢ iprop(_ -∗ _ -∗ (put5 m c f ∗ sent c f 3 ∗ sent c f 4 ∗ need c f 5 ∗ rest c f _) -∗ _ -∗ (iprop(_ ∗ _ ∗ (put6 m c f ∗ sent c f 4 ∗ sent c f 5 ∗ rest c f _) ∗ _) -∗ _) -∗ _)
  unfold need put6
  iintro #HC Hx Hw ⟨Hput, Hs, Hs', ⟨Hd, Ht, Hr⟩, Hrest⟩ HO Hk
  iapply (hopN_core m K c f n hn (row f 5) 4 3 5 0 1 1 2 3 (acc4 m (src f c) f) (acc3 m c f) (by decide) (by decide) (by decide) rfl rfl l hl rfl
    (by show blk _ _ (acc5 m (src f (dst f c)) f) = _; rw [src_dst]; rfl)) $$ HC Hx Hw Hs Hd Ht Hr HO
  iintro ⟨Hx, Hw, Hg, Hz, Hn, HO⟩
  iapply Hk
  isplitl [Hx]; · iexact Hx
  isplitl [Hw]; · iexact Hw
  isplitr [HO]
  · isplitl [Hput Hg Hz]
    · isplitl [Hput]; · iexact Hput
      isplitl [Hg] <;> iassumption
    isplitl [Hs']; · iexact Hs'
    isplitl [Hn] <;> iassumption
  iexact HO

/-- Hop 5. -/
theorem hop5_blk (n : Dev nD) (hn : n = dst f c) (r : Fin 8) (hr : r = row f 6) (l : List (Fin 4 × Fin 7)) (hl : ∀ p ∈ (f, (6 : Fin 7)) :: l, (5 : Fin 7).val < p.2.val) :
    ctx m K ⊢ iprop(xIn m c r -∗ wIn m c f -∗ flow m c f 6 -∗ owing c ((f, 6) :: l)
      -∗ ((xIn m c r ∗ wIn m c f ∗ flow m c f 7 ∗ owing c l) -∗ Q ⟨⟩) -∗ WP c (hopN c n f r 5 4 6 1 0 2 3 4) Q) := by
  subst hr
  show _ ⊢ iprop(_ -∗ _ -∗ (put6 m c f ∗ sent c f 4 ∗ sent c f 5 ∗ need c f 6 ∗ rest c f _) -∗ _ -∗ (iprop(_ ∗ _ ∗ (put7 m c f ∗ sent c f 5 ∗ sent c f 6 ∗ rest c f _) ∗ _) -∗ _) -∗ _)
  unfold need put7
  iintro #HC Hx Hw ⟨Hput, Hs, Hs', ⟨Hd, Ht, Hr⟩, Hrest⟩ HO Hk
  iapply (hopN_core m K c f n hn (row f 6) 5 4 6 1 0 2 3 4 (acc5 m (src f c) f) (acc4 m c f) (by decide) (by decide) (by decide) rfl rfl l hl rfl
    (by show blk _ _ (acc6 m (src f (dst f c)) f) = _; rw [src_dst]; rfl)) $$ HC Hx Hw Hs Hd Ht Hr HO
  iintro ⟨Hx, Hw, Hg, Hz, Hn, HO⟩
  iapply Hk
  isplitl [Hx]; · iexact Hx
  isplitl [Hw]; · iexact Hw
  isplitr [HO]
  · isplitl [Hput Hg Hz]
    · isplitl [Hput]; · iexact Hput
      isplitl [Hg] <;> iassumption
    isplitl [Hs']; · iexact Hs'
    isplitl [Hn] <;> iassumption
  iexact HO

/-- What hop 6 takes for its copy out. -/
def outTodo : sProp 𝕄 := iprop(any c (vO f) ∗ any c (vH f) ∗ semVal (oCell c f) 0)

/-- Hop 6, the two scales read from the SMEM words of `sx` and `sw`. -/
theorem hop6_blk (sx sw : Memref sig .tc .smem S1 .f32) (X : Buf (Elt F) (sx.view.loc (c : Thread nD τ))) (Y : Buf (Elt F) (sw.view.loc (c : Thread nD τ))) (r : Fin 8) (hr : r = row f 7)
    (l : List (Fin 4 × Fin 7)) (hl : ∀ p ∈ l, (6 : Fin 7).val < p.2.val) :
    ctx m K ⊢ iprop(xIn m c r -∗ wIn m c f -∗ (sx.view.loc (c : Thread nD τ) ↦{fullShare} X) -∗ (sw.view.loc (c : Thread nD τ) ↦{fullShare} Y) -∗ flow m c f 7 -∗ outTodo c f -∗ owing c l
      -∗ ((xIn m c r ∗ wIn m c f ∗ (sx.view.loc (c : Thread nD τ) ↦{fullShare} X) ∗ (sw.view.loc (c : Thread nD τ) ↦{fullShare} Y) ∗ flow m c f 8
            ∗ oFly c f (res m c (wordOf sx X) (wordOf sw Y) f) ∗ owing c l) -∗ Q ⟨⟩) -∗ WP c (hop6 c sx sw f r) Q) := by
  subst hr
  unfold hop6 ldX ldW ldRB
  rw [WP_bind]; simp only [WP_bind c (Prog.lift (.load _ _ _)), WP_bind c (arriveB _ _ _ _), WP_bind c (smemLoad _ _ _ _), WP_bind c (Prog.lift (.store _ _ _ _ _ _))]
  show _ ⊢ iprop(_ -∗ _ -∗ _ -∗ _ -∗ (put7 m c f ∗ sent c f 5 ∗ sent c f 6 ∗ todoR c f 6 ∗ emp) -∗ _ -∗ _
    -∗ (iprop(_ ∗ _ ∗ _ ∗ _ ∗ (put7 m c f ∗ sent c f 5 ∗ sent c f 6 ∗ got m c f 6) ∗ _ ∗ _) -∗ _) -∗ _)
  unfold xIn wIn outTodo got
  iintro #HC Hx Hw HX HY ⟨Hput, Hs, Hs', Hr, -⟩ ⟨Ho, Hh, Hq⟩ HO Hk
  iapply (load_blk c) $$ Hx; iintro Hx
  iapply (load_blk c) $$ Hw; iintro Hw
  iapply (arriveB_blk m K c f 6 0 4 _ (by decide) hl) $$ HC Hr HO
  iintro ⟨Hp, Hz, HO⟩
  ihave Hp := (Entails.of_eq (show rcvP m c f 6 = blk c (v7 f 4) (acc6 m (src f c) f) from rfl)) $$ Hp
  iapply (load_blk c) $$ Hp; iintro Hp
  rw [WP_bind]
  iapply (word_blk c sx X) $$ HX; iintro HX
  rw [WP_bind]
  iapply (word_blk c sw Y) $$ HY; iintro HY
  simp only [WP_bind c (Prog.lift (.load _ _ _)), WP_bind c (Prog.lift (.store _ _ _ _ _ _))]
  ihave Ho := (Entails.of_eq (show any c (vO f) = iprop(∃ v, blk (F := F) c (vO f) v) from rfl)) $$ Ho
  icases Ho with ⟨%v, Ho⟩
  iapply (load_blk c) $$ Ho; iintro Ho
  ihave Ho := (any_intro c (vO f) v) $$ Ho
  iapply (store_blk c) $$ Ho; iintro Ho
  iapply (startO_blk c f (res m c (wordOf sx X) (wordOf sw Y) f)) $$ [Ho Hh Hq]
  · isplitl [Ho]; · iexact Ho
    isplitl [Hh]; · iexact Hh
    iexact Hq
  iintro Hfly
  iapply Hk
  isplitl [Hx]; · iexact Hx
  isplitl [Hw]; · iexact Hw
  isplitl [HX]; · iexact HX
  isplitl [HY]; · iexact HY
  isplitl [Hput Hs Hs' Hp Hz]
  · isplitl [Hput]; · iexact Hput
    isplitl [Hs]; · iexact Hs
    isplitl [Hs']; · iexact Hs'
    isplitl [Hp]; · iapply (Entails.of_eq (show blk c (v7 f 4) (acc6 m (src f c) f) = rcvP m c f 6 from rfl)) $$ Hp
    iexact Hz
  isplitl [Hfly] <;> iassumption

/-- What a flow gives back: its slots, holding anything, and its semaphores at zero. -/
def flowEnd : sProp 𝕄 :=
  iprop((any c (v4 f 0) ∗ any c (v4 f 1)) ∗ (any c (v6 f 0) ∗ any c (v6 f 1)) ∗ slots c f
    ∗ (semVal (sCell c f 0) 0 ∗ semVal (sCell c f 1) 0 ∗ semVal (sCell c f 2) 0 ∗ semVal (sCell c f 3) 0 ∗ semVal (sCell c f 4) 0 ∗ semVal (sCell c f 5) 0 ∗ semVal (sCell c f 6) 0)
    ∗ (semVal (rCell c f 0) 0 ∗ semVal (rCell c f 1) 0 ∗ semVal (rCell c f 2) 0 ∗ semVal (rCell c f 3) 0 ∗ semVal (rCell c f 4) 0 ∗ semVal (rCell c f 5) 0 ∗ semVal (rCell c f 6) 0))

/-- The last departures of a flow. -/
theorem drain_blk (l : List (Fin 4 × Fin 7)) :
    ctx m K ⊢ iprop(flow m c f 8 -∗ owing c l -∗ ((flowEnd c f ∗ owing c l) -∗ Q ⟨⟩) -∗ WP c (drain f) Q) := by
  unfold drain
  rw [WP_bind]; simp only [WP_bind c (depart8 _ _ _), WP_bind c (departB _ _ _ _)]
  show _ ⊢ iprop((put7 m c f ∗ sent c f 5 ∗ sent c f 6 ∗ got m c f 6) -∗ _ -∗ _ -∗ _)
  unfold put7 put6 put5 put4 put3 got
  iintro #HC ⟨⟨⟨⟨⟨⟨Hs0, Hs1, ⟨Hr0, Hy0⟩, Hr1, Hy1⟩, Hr2, Hy2⟩, ⟨Hr3, Hy3⟩, Hz2⟩, ⟨Hr4, Hy4⟩, Hz3⟩, ⟨Hr5, Hy5⟩, Hz4⟩, Hs5, Hs6, Hr6, Hy6⟩ HO Hk
  iapply (depart8_blk m K c f 0 0 l (by decide)) $$ HC Hs0 HO; iintro ⟨Ha0, Hz0, HO⟩
  iapply (depart8_blk m K c f 1 1 l (by decide)) $$ HC Hs1 HO; iintro ⟨Ha1, Hz1, HO⟩
  iapply (departB_blk m K c f 5 1 3 l (by decide)) $$ HC Hs5 HO; iintro ⟨Hb1, Hz5, HO⟩
  iapply (departB_blk m K c f 6 0 4 l (by decide)) $$ HC Hs6 HO; iintro ⟨Hb0, Hz6, HO⟩
  ihave Ha0 := (Entails.of_eq (show sndP m c f 0 = blk c (v4 f 0) (acc0 m c f) from rfl)) $$ Ha0
  ihave Ha0 := (any_intro c (v4 f 0) (acc0 m c f)) $$ Ha0
  ihave Ha1 := (Entails.of_eq (show sndP m c f 1 = blk c (v4 f 1) (acc1 m c f) from rfl)) $$ Ha1
  ihave Ha1 := (any_intro c (v4 f 1) (acc1 m c f)) $$ Ha1
  ihave Hb0 := (Entails.of_eq (show sndP m c f 6 = blk c (v6 f 0) (acc6 m c f) from rfl)) $$ Hb0
  ihave Hb0 := (any_intro c (v6 f 0) (acc6 m c f)) $$ Hb0
  ihave Hb1 := (Entails.of_eq (show sndP m c f 5 = blk c (v6 f 1) (acc5 m c f) from rfl)) $$ Hb1
  ihave Hb1 := (any_intro c (v6 f 1) (acc5 m c f)) $$ Hb1
  ihave Hr0 := (Entails.of_eq (show rcvP m c f 0 = blk c (v5 f 0) (acc0 m (src f c) f) from rfl)) $$ Hr0
  ihave Hr0 := (any_intro c (v5 f 0) (acc0 m (src f c) f)) $$ Hr0
  ihave Hr1 := (Entails.of_eq (show rcvP m c f 1 = blk c (v5 f 1) (acc1 m (src f c) f) from rfl)) $$ Hr1
  ihave Hr1 := (any_intro c (v5 f 1) (acc1 m (src f c) f)) $$ Hr1
  ihave Hr2 := (Entails.of_eq (show rcvP m c f 2 = blk c (v7 f 0) (acc2 m (src f c) f) from rfl)) $$ Hr2
  ihave Hr2 := (any_intro c (v7 f 0) (acc2 m (src f c) f)) $$ Hr2
  ihave Hr3 := (Entails.of_eq (show rcvP m c f 3 = blk c (v7 f 1) (acc3 m (src f c) f) from rfl)) $$ Hr3
  ihave Hr3 := (any_intro c (v7 f 1) (acc3 m (src f c) f)) $$ Hr3
  ihave Hr4 := (Entails.of_eq (show rcvP m c f 4 = blk c (v7 f 2) (acc4 m (src f c) f) from rfl)) $$ Hr4
  ihave Hr4 := (any_intro c (v7 f 2) (acc4 m (src f c) f)) $$ Hr4
  ihave Hr5 := (Entails.of_eq (show rcvP m c f 5 = blk c (v7 f 3) (acc5 m (src f c) f) from rfl)) $$ Hr5
  ihave Hr5 := (any_intro c (v7 f 3) (acc5 m (src f c) f)) $$ Hr5
  ihave Hr6 := (Entails.of_eq (show rcvP m c f 6 = blk c (v7 f 4) (acc6 m (src f c) f) from rfl)) $$ Hr6
  ihave Hr6 := (any_intro c (v7 f 4) (acc6 m (src f c) f)) $$ Hr6
  iapply Hk
  isplitr [HO]
  · unfold flowEnd slots
    isplitl [Ha0 Ha1]
    · isplitl [Ha0] <;> iassumption
    isplitl [Hb0 Hb1]
    · isplitl [Hb0] <;> iassumption
    isplitl [Hr0 Hr1 Hr2 Hr3 Hr4 Hr5 Hr6]
    · isplitl [Hr0]; · iexact Hr0
      isplitl [Hr1]; · iexact Hr1
      isplitl [Hr2]; · iexact Hr2
      isplitl [Hr3]; · iexact Hr3
      isplitl [Hr4]; · iexact Hr4
      isplitl [Hr5] <;> iassumption
    isplitl [Hz0 Hz1 Hz2 Hz3 Hz4 Hz5 Hz6]
    · isplitl [Hz0]; · iexact Hz0
      isplitl [Hz1]; · iexact Hz1
      isplitl [Hz2]; · iexact Hz2
      isplitl [Hz3]; · iexact Hz3
      isplitl [Hz4]; · iexact Hz4
      isplitl [Hz5] <;> iassumption
    isplitl [Hy0]; · iexact Hy0
    isplitl [Hy1]; · iexact Hy1
    isplitl [Hy2]; · iexact Hy2
    isplitl [Hy3]; · iexact Hy3
    isplitl [Hy4]; · iexact Hy4
    isplitl [Hy5] <;> iassumption
  iexact HO

end Cert.KernelIdeal.Ring
-- ==== Proof.Body.lean ====
module

public import proofs.«01_k».proof.Proof.Hops

/-! The body of the kernel on one device, segment by segment. -/

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ) (c : Dev nD)
variable {Q : PUnit.{1} → sProp (MT nD τ sig Unit (Elt F) ℕ UU ℕ)}

/-! ## The sends left -/

/-- The sends of round 5, the last. -/
abbrev sends6 : List (Fin 4 × Fin 7) := [(0, 6), (2, 6), (1, 6), (3, 6)]
/-- The sends from round 4 on. -/
abbrev sends5 : List (Fin 4 × Fin 7) := (0, 5) :: (2, 5) :: (1, 5) :: (3, 5) :: sends6
/-- The sends from round 3 on. -/
abbrev sends4 : List (Fin 4 × Fin 7) := (0, 4) :: (2, 4) :: (1, 4) :: (3, 4) :: sends5
/-- The sends from round 2 on. -/
abbrev sends3 : List (Fin 4 × Fin 7) := (0, 3) :: (2, 3) :: (1, 3) :: (3, 3) :: sends4
/-- The sends from round 1 on. -/
abbrev sends2 : List (Fin 4 × Fin 7) := (0, 2) :: (2, 2) :: (1, 2) :: (3, 2) :: sends3
/-- The sends from round 0 on. -/
abbrev sends1 : List (Fin 4 × Fin 7) := (0, 1) :: (2, 1) :: (1, 1) :: (3, 1) :: sends2
/-- All the sends. -/
abbrev sends0 : List (Fin 4 × Fin 7) := (0, 0) :: (1, 0) :: (2, 0) :: (3, 0) :: sends1

/-! ## Fetching and casting -/

/-- A slot of the staging buffer of `x`, free, with its semaphore. -/
def xFree (j : Fin 3) : sProp 𝕄 := iprop(any c (vXS j) ∗ semVal (xCell c j) 0)
/-- A slot of the staging buffer of `w`, free, with its semaphore. -/
def wFree (j : Fin 2) : sProp 𝕄 := iprop(any c (vWS j) ∗ semVal (wCell c j) 0)
/-- Rows `r` of `x` not yet fetched. -/
def xTodo (r : Fin 8) : sProp 𝕄 := iprop(xHeld m c r ∗ any c (vX c r))
/-- Columns `f` of `w` not yet fetched. -/
def wTodo (f : Fin 4) : sProp 𝕄 := iprop(wHeld m c f ∗ any c (vW f))
/-- Rows `r` on their way to slot `j`. -/
def xMid (r : Fin 8) (j : Fin 3) : sProp 𝕄 := iprop(xFly m c r j ∗ any c (vX c r))
/-- Columns `f` on their way to slot `j`. -/
def wMid (f : Fin 4) (j : Fin 2) : sProp 𝕄 := iprop(wFly m c f j ∗ any c (vW f))

theorem startX_step (r : Fin 8) (j : Fin 3) :
    xTodo m c r ⊢ iprop(xFree c j -∗ (xMid m c r j -∗ Q ⟨⟩) -∗ WP c (startX c r j) Q) := by
  unfold xTodo xFree xMid
  iintro ⟨Hh, Ha⟩ ⟨Hs, Hz⟩ Hk
  iapply (startX_blk m c r j) $$ [Hh Hs Hz]
  · isplitl [Hh]; · iexact Hh
    isplitl [Hs] <;> iassumption
  iintro Hf
  iapply Hk
  isplitl [Hf] <;> iassumption

theorem startW_step (f : Fin 4) (j : Fin 2) :
    wTodo m c f ⊢ iprop(wFree c j -∗ (wMid m c f j -∗ Q ⟨⟩) -∗ WP c (startW f j) Q) := by
  unfold wTodo wFree wMid
  iintro ⟨Hh, Ha⟩ ⟨Hs, Hz⟩ Hk
  iapply (startW_blk m c f j) $$ [Hh Hs Hz]
  · isplitl [Hh]; · iexact Hh
    isplitl [Hs] <;> iassumption
  iintro Hf
  iapply Hk
  isplitl [Hf] <;> iassumption

theorem castX_step (r : Fin 8) (j : Fin 3) (l : List (Fin 4 × Fin 7)) :
    ctx m K ⊢ iprop(xMid m c r j -∗ owing c l -∗ ((xIn m c r ∗ xHeld m c r ∗ xFree c j ∗ owing c l) -∗ Q ⟨⟩) -∗ WP c (castX c r j) Q) := by
  unfold ctx xMid xFree xIn
  iintro ⟨#HR, #Hlev⟩ ⟨Hf, Ha⟩ HO Hk
  iapply (castX_blk m c r j l) $$ [Hf Ha HO]
  · isplitr; · iexact Hlev
    isplitl [Hf]; · iexact Hf
    isplitl [Ha] <;> iassumption
  iintro ⟨Hx, Hh, Hs, Hz, HO⟩
  iapply Hk
  isplitl [Hx]; · iexact Hx
  isplitl [Hh]; · iexact Hh
  isplitl [Hs Hz]
  · isplitl [Hs] <;> iassumption
  iexact HO

theorem castW_step (f : Fin 4) (j : Fin 2) (l : List (Fin 4 × Fin 7)) :
    ctx m K ⊢ iprop(wMid m c f j -∗ owing c l -∗ ((wIn m c f ∗ wHeld m c f ∗ wFree c j ∗ owing c l) -∗ Q ⟨⟩) -∗ WP c (castW f j) Q) := by
  unfold ctx wMid wFree wIn
  iintro ⟨#HR, #Hlev⟩ ⟨Hf, Ha⟩ HO Hk
  iapply (castW_blk m c f j l) $$ [Hf Ha HO]
  · isplitr; · iexact Hlev
    isplitl [Hf]; · iexact Hf
    isplitl [Ha] <;> iassumption
  iintro ⟨Hx, Hh, Hs, Hz, HO⟩
  iapply Hk
  isplitl [Hx]; · iexact Hx
  isplitl [Hh]; · iexact Hh
  isplitl [Hs Hz]
  · isplitl [Hs] <;> iassumption
  iexact HO

/-! ## The segments -/

/-- All of `w` in place. -/
def wAll : sProp 𝕄 := iprop(wIn m c 0 ∗ wIn m c 1 ∗ wIn m c 2 ∗ wIn m c 3)
/-- All of the HBM array `w`, in columns. -/
def wBack : sProp 𝕄 := iprop(wHeld m c 0 ∗ wHeld m c 1 ∗ wHeld m c 2 ∗ wHeld m c 3)
/-- The four flows before their step `k`. -/
def flows (k : Fin 9) : sProp 𝕄 := iprop(flow m c 0 k ∗ flow m c 1 k ∗ flow m c 2 k ∗ flow m c 3 k)

/-- The copies started before the barrier. -/
theorem openCopies_blk :
    xTodo m c 7 ⊢ iprop(xTodo m c 1 -∗ xTodo m c 6 -∗ wTodo m c 0 -∗ wTodo m c 1
      -∗ xFree c 0 -∗ xFree c 1 -∗ xFree c 2 -∗ wFree c 0 -∗ wFree c 1
      -∗ ((xMid m c 7 0 ∗ xMid m c 1 1 ∗ xMid m c 6 2 ∗ wMid m c 0 0 ∗ wMid m c 1 1) -∗ Q ⟨⟩) -∗ WP c (openCopies c) Q) := by
  unfold openCopies
  rw [WP_bind]; simp only [WP_bind c (startX _ _ _), WP_bind c (startW _ _)]
  iintro H7 H1 H6 W0 W1 F0 F1 F2 G0 G1 Hk
  iapply (startX_step m c 7 0) $$ H7 F0; iintro H7
  iapply (startX_step m c 1 1) $$ H1 F1; iintro H1
  iapply (startX_step m c 6 2) $$ H6 F2; iintro H6
  iapply (startW_step m c 0 0) $$ W0 G0; iintro W0
  iapply (startW_step m c 1 1) $$ W1 G1; iintro W1
  iapply Hk
  isplitl [H7]; · iexact H7
  isplitl [H1]; · iexact H1
  isplitl [H6]; · iexact H6
  isplitl [W0] <;> iassumption

/-- The first products. -/
theorem opening_blk :
    ctx m K ⊢ iprop(xMid m c 7 0 -∗ xMid m c 1 1 -∗ wMid m c 0 0 -∗ wMid m c 1 1 -∗ xTodo m c 2 -∗ xTodo m c 5 -∗ wTodo m c 2 -∗ wTodo m c 3
      -∗ flows m c 0 -∗ owing c sends0
      -∗ (((xIn m c 7 ∗ xHeld m c 7) ∗ (xIn m c 1 ∗ xHeld m c 1) ∗ xMid m c 2 0 ∗ xMid m c 5 1 ∗ (wFree c 0 ∗ wFree c 1) ∗ wAll m c ∗ wBack m c
            ∗ flows m c 1 ∗ owing c sends1) -∗ Q ⟨⟩) -∗ WP c (opening c) Q) := by
  unfold opening flows wAll wBack
  rw [WP_bind]; simp only [WP_bind c (startX _ _ _), WP_bind c (startW _ _), WP_bind c (castX _ _ _), WP_bind c (castW _ _), WP_bind c (first _ _ _ _)]
  iintro #HC H7 H1 W0 W1 H2 H5 W2 W3 ⟨L0, L1, L2, L3⟩ HO Hk
  iapply (castW_step m K c 0 0 _) $$ HC W0 HO; iintro ⟨W0, B0, G0, HO⟩
  iapply (startW_step m c 2 0) $$ W2 G0; iintro W2
  iapply (castX_step m K c 7 0 _) $$ HC H7 HO; iintro ⟨H7, X7, F0, HO⟩
  iapply (startX_step m c 2 0) $$ H2 F0; iintro H2
  iapply (first_blk m K c 0 _ (Fin.ext (k0_dev3_eq c)) 7 (by decide) _) $$ HC H7 W0 L0 HO; iintro ⟨H7, W0, L0, HO⟩
  iapply (castW_step m K c 1 1 _) $$ HC W1 HO; iintro ⟨W1, B1, G1, HO⟩
  iapply (startW_step m c 3 1) $$ W3 G1; iintro W3
  iapply (first_blk m K c 1 _ (Fin.ext (k0_dev4_eq c)) 7 (by decide) _) $$ HC H7 W1 L1 HO; iintro ⟨H7, W1, L1, HO⟩
  iapply (castW_step m K c 2 0 _) $$ HC W2 HO; iintro ⟨W2, B2, G0, HO⟩
  iapply (castX_step m K c 1 1 _) $$ HC H1 HO; iintro ⟨H1, X1, F1, HO⟩
  iapply (startX_step m c 5 1) $$ H5 F1; iintro H5
  iapply (first_blk m K c 2 _ (Fin.ext (k0_dev5_eq c)) 1 (by decide) _) $$ HC H1 W2 L2 HO; iintro ⟨H1, W2, L2, HO⟩
  iapply (castW_step m K c 3 1 _) $$ HC W3 HO; iintro ⟨W3, B3, G1, HO⟩
  iapply (first_blk m K c 3 _ (Fin.ext (k0_dev6_eq c)) 1 (by decide) _) $$ HC H1 W3 L3 HO; iintro ⟨H1, W3, L3, HO⟩
  iapply Hk
  isplitl [H7 X7]
  · isplitl [H7] <;> iassumption
  isplitl [H1 X1]
  · isplitl [H1] <;> iassumption
  isplitl [H2]; · iexact H2
  isplitl [H5]; · iexact H5
  isplitl [G0 G1]
  · isplitl [G0] <;> iassumption
  isplitl [W0 W1 W2 W3]
  · isplitl [W0]; · iexact W0
    isplitl [W1]; · iexact W1
    isplitl [W2] <;> iassumption
  isplitl [B0 B1 B2 B3]
  · isplitl [B0]; · iexact B0
    isplitl [B1]; · iexact B1
    isplitl [B2] <;> iassumption
  isplitl [L0 L1 L2 L3]
  · isplitl [L0]; · iexact L0
    isplitl [L1]; · iexact L1
    isplitl [L2] <;> iassumption
  iexact HO

/-- Hop 0. -/
theorem round0_blk :
    ctx m K ⊢ iprop(xMid m c 6 2 -∗ xMid m c 2 0 -∗ xTodo m c 3 -∗ xTodo m c 4 -∗ wAll m c -∗ flows m c 1 -∗ owing c sends1
      -∗ (((xIn m c 6 ∗ xHeld m c 6) ∗ (xIn m c 2 ∗ xHeld m c 2) ∗ xMid m c 3 2 ∗ xMid m c 4 0 ∗ wAll m c ∗ flows m c 2 ∗ owing c sends2) -∗ Q ⟨⟩)
      -∗ WP c (round0 c) Q) := by
  unfold round0 flows wAll
  rw [WP_bind]; simp only [WP_bind c (startX _ _ _), WP_bind c (castX _ _ _), WP_bind c (hop0 _ _ _ _)]
  iintro #HC H6 H2 H3 H4 ⟨W0, W1, W2, W3⟩ ⟨L0, L1, L2, L3⟩ HO Hk
  iapply (castX_step m K c 6 2 _) $$ HC H6 HO; iintro ⟨H6, X6, F2, HO⟩
  iapply (startX_step m c 3 2) $$ H3 F2; iintro H3
  iapply (hop0_blk m K c 0 _ (Fin.ext (k0_dev7_eq c)) 6 (by decide) _ (by decide)) $$ HC H6 W0 L0 HO; iintro ⟨H6, W0, L0, HO⟩
  iapply (castX_step m K c 2 0 _) $$ HC H2 HO; iintro ⟨H2, X2, F0, HO⟩
  iapply (startX_step m c 4 0) $$ H4 F0; iintro H4
  iapply (hop0_blk m K c 2 _ (Fin.ext (k0_dev8_eq c)) 2 (by decide) _ (by decide)) $$ HC H2 W2 L2 HO; iintro ⟨H2, W2, L2, HO⟩
  iapply (hop0_blk m K c 1 _ (Fin.ext (k0_dev9_eq c)) 6 (by decide) _ (by decide)) $$ HC H6 W1 L1 HO; iintro ⟨H6, W1, L1, HO⟩
  iapply (hop0_blk m K c 3 _ (Fin.ext (k0_dev10_eq c)) 2 (by decide) _ (by decide)) $$ HC H2 W3 L3 HO; iintro ⟨H2, W3, L3, HO⟩
  iapply Hk
  isplitl [H6 X6]
  · isplitl [H6] <;> iassumption
  isplitl [H2 X2]
  · isplitl [H2] <;> iassumption
  isplitl [H3]; · iexact H3
  isplitl [H4]; · iexact H4
  isplitl [W0 W1 W2 W3]
  · isplitl [W0]; · iexact W0
    isplitl [W1]; · iexact W1
    isplitl [W2] <;> iassumption
  isplitl [L0 L1 L2 L3]
  · isplitl [L0]; · iexact L0
    isplitl [L1]; · iexact L1
    isplitl [L2] <;> iassumption
  iexact HO

/-- Hop 1. -/
theorem round1_blk :
    ctx m K ⊢ iprop(xMid m c 5 1 -∗ xMid m c 3 2 -∗ xTodo m c 0 -∗ wAll m c -∗ flows m c 2 -∗ owing c sends2
      -∗ (((xIn m c 5 ∗ xHeld m c 5) ∗ (xIn m c 3 ∗ xHeld m c 3) ∗ xMid m c 0 1 ∗ xFree c 2 ∗ wAll m c ∗ flows m c 3 ∗ owing c sends3) -∗ Q ⟨⟩)
      -∗ WP c (round1 c) Q) := by
  unfold round1 flows wAll
  rw [WP_bind]; simp only [WP_bind c (startX _ _ _), WP_bind c (castX _ _ _), WP_bind c (hop1 _ _ _ _)]
  iintro #HC H5 H3 H0 ⟨W0, W1, W2, W3⟩ ⟨L0, L1, L2, L3⟩ HO Hk
  iapply (castX_step m K c 5 1 _) $$ HC H5 HO; iintro ⟨H5, X5, F1, HO⟩
  iapply (startX_step m c 0 1) $$ H0 F1; iintro H0
  iapply (hop1_blk m K c 0 _ (Fin.ext (k0_dev11_eq c)) 5 (by decide) _ (by decide)) $$ HC H5 W0 L0 HO; iintro ⟨H5, W0, L0, HO⟩
  iapply (castX_step m K c 3 2 _) $$ HC H3 HO; iintro ⟨H3, X3, F2, HO⟩
  iapply (hop1_blk m K c 2 _ (Fin.ext (k0_dev12_eq c)) 3 (by decide) _ (by decide)) $$ HC H3 W2 L2 HO; iintro ⟨H3, W2, L2, HO⟩
  iapply (hop1_blk m K c 1 _ (Fin.ext (k0_dev13_eq c)) 5 (by decide) _ (by decide)) $$ HC H5 W1 L1 HO; iintro ⟨H5, W1, L1, HO⟩
  iapply (hop1_blk m K c 3 _ (Fin.ext (k0_dev14_eq c)) 3 (by decide) _ (by decide)) $$ HC H3 W3 L3 HO; iintro ⟨H3, W3, L3, HO⟩
  iapply Hk
  isplitl [H5 X5]
  · isplitl [H5] <;> iassumption
  isplitl [H3 X3]
  · isplitl [H3] <;> iassumption
  isplitl [H0]; · iexact H0
  isplitl [F2]; · iexact F2
  isplitl [W0 W1 W2 W3]
  · isplitl [W0]; · iexact W0
    isplitl [W1]; · iexact W1
    isplitl [W2] <;> iassumption
  isplitl [L0 L1 L2 L3]
  · isplitl [L0]; · iexact L0
    isplitl [L1]; · iexact L1
    isplitl [L2] <;> iassumption
  iexact HO

/-- Hop 2. -/
theorem round2_blk :
    ctx m K ⊢ iprop(xMid m c 4 0 -∗ wAll m c -∗ flows m c 3 -∗ owing c sends3
      -∗ (((xIn m c 4 ∗ xHeld m c 4) ∗ xFree c 0 ∗ wAll m c ∗ flows m c 4 ∗ owing c sends4) -∗ Q ⟨⟩)
      -∗ WP c (round2 c) Q) := by
  unfold round2 flows wAll
  rw [WP_bind]; simp only [WP_bind c (castX _ _ _), WP_bind c (hop2 _ _ _ _)]
  iintro #HC H4 ⟨W0, W1, W2, W3⟩ ⟨L0, L1, L2, L3⟩ HO Hk
  iapply (castX_step m K c 4 0 _) $$ HC H4 HO; iintro ⟨H4, X4, F0, HO⟩
  iapply (hop2_blk m K c 0 _ (Fin.ext (k0_dev15_eq c)) 4 (by decide) _ (by decide)) $$ HC H4 W0 L0 HO; iintro ⟨H4, W0, L0, HO⟩
  iapply (hop2_blk m K c 2 _ (Fin.ext (k0_dev16_eq c)) 4 (by decide) _ (by decide)) $$ HC H4 W2 L2 HO; iintro ⟨H4, W2, L2, HO⟩
  iapply (hop2_blk m K c 1 _ (Fin.ext (k0_dev17_eq c)) 4 (by decide) _ (by decide)) $$ HC H4 W1 L1 HO; iintro ⟨H4, W1, L1, HO⟩
  iapply (hop2_blk m K c 3 _ (Fin.ext (k0_dev18_eq c)) 4 (by decide) _ (by decide)) $$ HC H4 W3 L3 HO; iintro ⟨H4, W3, L3, HO⟩
  iapply Hk
  isplitl [H4 X4]
  · isplitl [H4] <;> iassumption
  isplitl [F0]; · iexact F0
  isplitl [W0 W1 W2 W3]
  · isplitl [W0]; · iexact W0
    isplitl [W1]; · iexact W1
    isplitl [W2] <;> iassumption
  isplitl [L0 L1 L2 L3]
  · isplitl [L0]; · iexact L0
    isplitl [L1]; · iexact L1
    isplitl [L2] <;> iassumption
  iexact HO

/-- Hop 3. -/
theorem round3_blk :
    ctx m K ⊢ iprop(xIn m c 3 -∗ xIn m c 5 -∗ wAll m c -∗ flows m c 4 -∗ owing c sends4
      -∗ ((xIn m c 3 ∗ xIn m c 5 ∗ wAll m c ∗ flows m c 5 ∗ owing c sends5) -∗ Q ⟨⟩) -∗ WP c (round3 c) Q) := by
  unfold round3 flows wAll
  rw [WP_bind]; simp only [WP_bind c (hopN _ _ _ _ _ _ _ _ _ _ _ _)]
  iintro #HC Ha Hb ⟨W0, W1, W2, W3⟩ ⟨L0, L1, L2, L3⟩ HO Hk
  iapply (hop3_blk m K c 0 _ (Fin.ext (k0_dev19_eq c)) 3 (by decide) _ (by decide)) $$ HC Ha W0 L0 HO; iintro ⟨Ha, W0, L0, HO⟩
  iapply (hop3_blk m K c 2 _ (Fin.ext (k0_dev20_eq c)) 5 (by decide) _ (by decide)) $$ HC Hb W2 L2 HO; iintro ⟨Hb, W2, L2, HO⟩
  iapply (hop3_blk m K c 1 _ (Fin.ext (k0_dev21_eq c)) 3 (by decide) _ (by decide)) $$ HC Ha W1 L1 HO; iintro ⟨Ha, W1, L1, HO⟩
  iapply (hop3_blk m K c 3 _ (Fin.ext (k0_dev22_eq c)) 5 (by decide) _ (by decide)) $$ HC Hb W3 L3 HO; iintro ⟨Hb, W3, L3, HO⟩
  iapply Hk
  isplitl [Ha]; · iexact Ha
  isplitl [Hb]; · iexact Hb
  isplitl [W0 W1 W2 W3]
  · isplitl [W0]; · iexact W0
    isplitl [W1]; · iexact W1
    isplitl [W2] <;> iassumption
  isplitl [L0 L1 L2 L3]
  · isplitl [L0]; · iexact L0
    isplitl [L1]; · iexact L1
    isplitl [L2] <;> iassumption
  iexact HO

/-- Hop 4. -/
theorem round4_blk :
    ctx m K ⊢ iprop(xIn m c 2 -∗ xIn m c 6 -∗ wAll m c -∗ flows m c 5 -∗ owing c sends5
      -∗ ((xIn m c 2 ∗ xIn m c 6 ∗ wAll m c ∗ flows m c 6 ∗ owing c sends6) -∗ Q ⟨⟩) -∗ WP c (round4 c) Q) := by
  unfold round4 flows wAll
  rw [WP_bind]; simp only [WP_bind c (hopN _ _ _ _ _ _ _ _ _ _ _ _)]
  iintro #HC Ha Hb ⟨W0, W1, W2, W3⟩ ⟨L0, L1, L2, L3⟩ HO Hk
  iapply (hop4_blk m K c 0 _ (Fin.ext (k0_dev23_eq c)) 2 (by decide) _ (by decide)) $$ HC Ha W0 L0 HO; iintro ⟨Ha, W0, L0, HO⟩
  iapply (hop4_blk m K c 2 _ (Fin.ext (k0_dev24_eq c)) 6 (by decide) _ (by decide)) $$ HC Hb W2 L2 HO; iintro ⟨Hb, W2, L2, HO⟩
  iapply (hop4_blk m K c 1 _ (Fin.ext (k0_dev25_eq c)) 2 (by decide) _ (by decide)) $$ HC Ha W1 L1 HO; iintro ⟨Ha, W1, L1, HO⟩
  iapply (hop4_blk m K c 3 _ (Fin.ext (k0_dev26_eq c)) 6 (by decide) _ (by decide)) $$ HC Hb W3 L3 HO; iintro ⟨Hb, W3, L3, HO⟩
  iapply Hk
  isplitl [Ha]; · iexact Ha
  isplitl [Hb]; · iexact Hb
  isplitl [W0 W1 W2 W3]
  · isplitl [W0]; · iexact W0
    isplitl [W1]; · iexact W1
    isplitl [W2] <;> iassumption
  isplitl [L0 L1 L2 L3]
  · isplitl [L0]; · iexact L0
    isplitl [L1]; · iexact L1
    isplitl [L2] <;> iassumption
  iexact HO

/-- Hop 5. -/
theorem round5_blk :
    ctx m K ⊢ iprop(xIn m c 1 -∗ xIn m c 7 -∗ wAll m c -∗ flows m c 6 -∗ owing c sends6
      -∗ ((xIn m c 1 ∗ xIn m c 7 ∗ wAll m c ∗ flows m c 7 ∗ owing c []) -∗ Q ⟨⟩) -∗ WP c (round5 c) Q) := by
  unfold round5 flows wAll
  rw [WP_bind]; simp only [WP_bind c (hopN _ _ _ _ _ _ _ _ _ _ _ _)]
  iintro #HC Ha Hb ⟨W0, W1, W2, W3⟩ ⟨L0, L1, L2, L3⟩ HO Hk
  iapply (hop5_blk m K c 0 _ (Fin.ext (k0_dev27_eq c)) 1 (by decide) _ (by decide)) $$ HC Ha W0 L0 HO; iintro ⟨Ha, W0, L0, HO⟩
  iapply (hop5_blk m K c 2 _ (Fin.ext (k0_dev28_eq c)) 7 (by decide) _ (by decide)) $$ HC Hb W2 L2 HO; iintro ⟨Hb, W2, L2, HO⟩
  iapply (hop5_blk m K c 1 _ (Fin.ext (k0_dev29_eq c)) 1 (by decide) _ (by decide)) $$ HC Ha W1 L1 HO; iintro ⟨Ha, W1, L1, HO⟩
  iapply (hop5_blk m K c 3 _ (Fin.ext (k0_dev30_eq c)) 7 (by decide) _ (by decide)) $$ HC Hb W3 L3 HO; iintro ⟨Hb, W3, L3, HO⟩
  iapply Hk
  isplitl [Ha]; · iexact Ha
  isplitl [Hb]; · iexact Hb
  isplitl [W0 W1 W2 W3]
  · isplitl [W0]; · iexact W0
    isplitl [W1]; · iexact W1
    isplitl [W2] <;> iassumption
  isplitl [L0 L1 L2 L3]
  · isplitl [L0]; · iexact L0
    isplitl [L1]; · iexact L1
    isplitl [L2] <;> iassumption
  iexact HO

/-- What the four copies out take. -/
def outs : sProp 𝕄 := iprop(outTodo c 0 ∗ outTodo c 1 ∗ outTodo c 2 ∗ outTodo c 3)
/-- The four copies out under way. -/
def outFlies (p q : Elt F .f32) : sProp 𝕄 :=
  iprop(oFly c 0 (res m c p q 0) ∗ oFly c 1 (res m c p q 1) ∗ oFly c 2 (res m c p q 2) ∗ oFly c 3 (res m c p q 3))

/-- Hop 6. -/
theorem round6_blk (sx sw : Memref sig .tc .smem S1 .f32) (X : Buf (Elt F) (sx.view.loc (c : Thread nD τ))) (Y : Buf (Elt F) (sw.view.loc (c : Thread nD τ))) :
    ctx m K ⊢ iprop(xMid m c 0 1 -∗ wAll m c -∗ (sx.view.loc (c : Thread nD τ) ↦{fullShare} X) -∗ (sw.view.loc (c : Thread nD τ) ↦{fullShare} Y)
      -∗ flows m c 7 -∗ outs c -∗ owing c []
      -∗ (((xIn m c 0 ∗ xHeld m c 0) ∗ xFree c 1 ∗ wAll m c ∗ (sx.view.loc (c : Thread nD τ) ↦{fullShare} X) ∗ (sw.view.loc (c : Thread nD τ) ↦{fullShare} Y)
            ∗ flows m c 8 ∗ outFlies m c (wordOf sx X) (wordOf sw Y) ∗ owing c []) -∗ Q ⟨⟩) -∗ WP c (round6 c sx sw) Q) := by
  unfold round6 flows wAll outs outFlies
  rw [WP_bind]; simp only [WP_bind c (castX _ _ _), WP_bind c (hop6 _ _ _ _ _)]
  iintro #HC H0 ⟨W0, W1, W2, W3⟩ HX HY ⟨L0, L1, L2, L3⟩ ⟨O0, O1, O2, O3⟩ HO Hk
  iapply (castX_step m K c 0 1 _) $$ HC H0 HO; iintro ⟨H0, X0, F1, HO⟩
  iapply (hop6_blk m K c 0 sx sw X Y 0 (by decide) [] (by decide)) $$ HC H0 W0 HX HY L0 O0 HO; iintro ⟨H0, W0, HX, HY, L0, O0, HO⟩
  iapply (hop6_blk m K c 2 sx sw X Y 0 (by decide) [] (by decide)) $$ HC H0 W2 HX HY L2 O2 HO; iintro ⟨H0, W2, HX, HY, L2, O2, HO⟩
  iapply (hop6_blk m K c 1 sx sw X Y 0 (by decide) [] (by decide)) $$ HC H0 W1 HX HY L1 O1 HO; iintro ⟨H0, W1, HX, HY, L1, O1, HO⟩
  iapply (hop6_blk m K c 3 sx sw X Y 0 (by decide) [] (by decide)) $$ HC H0 W3 HX HY L3 O3 HO; iintro ⟨H0, W3, HX, HY, L3, O3, HO⟩
  iapply Hk
  isplitl [H0 X0]
  · isplitl [H0] <;> iassumption
  isplitl [F1]; · iexact F1
  isplitl [W0 W1 W2 W3]
  · isplitl [W0]; · iexact W0
    isplitl [W1]; · iexact W1
    isplitl [W2] <;> iassumption
  isplitl [HX]; · iexact HX
  isplitl [HY]; · iexact HY
  isplitl [L0 L1 L2 L3]
  · isplitl [L0]; · iexact L0
    isplitl [L1]; · iexact L1
    isplitl [L2] <;> iassumption
  isplitl [O0 O1 O2 O3]
  · isplitl [O0]; · iexact O0
    isplitl [O1]; · iexact O1
    isplitl [O2] <;> iassumption
  iexact HO

/-- Columns `f` of the result in place, both in VMEM and in HBM, with the semaphore at zero. -/
def outEnd (p q : Elt F .f32) (f : Fin 4) : sProp 𝕄 := iprop(blk c (vH f) (res m c p q f) ∗ blk c (vO f) (res m c p q f) ∗ semVal (oCell c f) 0)

/-- Waiting for one copy out. -/
theorem outW_step (p q : Elt F .f32) (f : Fin 4) :
    ctx m K ⊢ iprop(oFly c f (res m c p q f) -∗ owing c [] -∗ ((outEnd m c p q f ∗ owing c []) -∗ Q ⟨⟩) -∗ WP c (outW f) Q) := by
  unfold ctx outEnd
  iintro ⟨#HR, #Hlev⟩ Hf HO Hk
  iapply (outW_blk c f (res m c p q f) []) $$ [Hf HO]
  · isplitr; · iexact Hlev
    isplitl [Hf] <;> iassumption
  iintro ⟨Hh, Ho, Hz, HO⟩
  iapply Hk
  isplitl [Hh Ho Hz]
  · isplitl [Hh]; · iexact Hh
    isplitl [Ho] <;> iassumption
  iexact HO

/-- What is left to wait for. -/
theorem closing_blk (p q : Elt F .f32) :
    ctx m K ⊢ iprop(flows m c 8 -∗ outFlies m c p q -∗ owing c []
      -∗ (((flowEnd c 0 ∗ flowEnd c 1 ∗ flowEnd c 2 ∗ flowEnd c 3) ∗ (outEnd m c p q 0 ∗ outEnd m c p q 1 ∗ outEnd m c p q 2 ∗ outEnd m c p q 3) ∗ owing c []) -∗ Q ⟨⟩)
      -∗ WP c (closing (F := F)) Q) := by
  unfold closing flows outFlies
  rw [WP_bind]; simp only [WP_bind c (drain _), WP_bind c (outW _)]
  iintro #HC ⟨L0, L1, L2, L3⟩ ⟨O0, O1, O2, O3⟩ HO Hk
  iapply (drain_blk m K c 0 []) $$ HC L0 HO; iintro ⟨L0, HO⟩
  iapply (drain_blk m K c 1 []) $$ HC L1 HO; iintro ⟨L1, HO⟩
  iapply (drain_blk m K c 2 []) $$ HC L2 HO; iintro ⟨L2, HO⟩
  iapply (drain_blk m K c 3 []) $$ HC L3 HO; iintro ⟨L3, HO⟩
  iapply (outW_step m K c p q 0) $$ HC O0 HO; iintro ⟨O0, HO⟩
  iapply (outW_step m K c p q 2) $$ HC O2 HO; iintro ⟨O2, HO⟩
  iapply (outW_step m K c p q 1) $$ HC O1 HO; iintro ⟨O1, HO⟩
  iapply (outW_step m K c p q 3) $$ HC O3 HO; iintro ⟨O3, HO⟩
  iapply Hk
  isplitl [L0 L1 L2 L3]
  · isplitl [L0]; · iexact L0
    isplitl [L1]; · iexact L1
    isplitl [L2] <;> iassumption
  isplitl [O0 O1 O2 O3]
  · isplitl [O0]; · iexact O0
    isplitl [O1]; · iexact O1
    isplitl [O2] <;> iassumption
  iexact HO

end Cert.KernelIdeal.Ring
-- ==== Proof.Split.lean ====
module

public import proofs.«01_k».proof.Proof.Body

/-! Whole buffers as their blocks. -/

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## Any buffer cut along a key -/

section Cut

variable (b : Ref sig .tc) {T : Type} [Fintype T] [DecidableEq T] (R : T → Rect b.ty.shape) (key : b.ty.shape.Idx → T)
variable (hk : ∀ i t, i ∈ (R t).set ↔ key i = t)

/-- Part `t` of the buffer. -/
abbrev part (t : T) : View sig .tc b.space (R t).shape b.ty.elt := (View.whole b).slice (R t)

include hk

theorem part_set (t : T) : (part b R t).set = (R t).set := View.set_slice_whole b (R t)

theorem cut_disjoint : ∀ t ∈ (Finset.univ : Finset T), ∀ t' ∈ (Finset.univ : Finset T), t ≠ t' → Disjoint ((R t).set) ((R t').set) := by
  intro t _ t' _ h
  rw [Finset.disjoint_left]
  intro i hi hi'
  exact h (((hk i t).mp hi).symm.trans ((hk i t').mp hi'))

theorem cut_cover : (Finset.univ : Finset T).biUnion (fun t => (R t).set) = Finset.univ := by
  ext i
  simp only [Finset.mem_biUnion, Finset.mem_univ, true_and, iff_true]
  exact ⟨key i, (hk i _).mpr rfl⟩

/-- A whole buffer is its parts at the same contents. -/
theorem cut_eq (f : Buf (Elt F) ((c : Thread nD τ).loc b)) :
    ((((c : Thread nD τ).loc b) ↦{fullShare} f) : sProp 𝕄) = bigSep Finset.univ fun t => ((c : Thread nD τ).loc b) ↦[(R t).set]{fullShare} f := by
  have h := pointsTo_biUnion (Ix := Unit) (Name := ℕ) (U := UU) (Lvl := ℕ) (Val := Elt F) (ℓ := (c : Thread nD τ).loc b) (q := fullShare) (f := f)
    Finset.univ (fun t => ((R t).set : Finset (Idx ((c : Thread nD τ).loc b)))) (cut_disjoint b R key hk)
  rw [← h]
  exact congrArg (fun S : Finset (Idx ((c : Thread nD τ).loc b)) => (((c : Thread nD τ).loc b) ↦[S]{fullShare} f : sProp 𝕄)) (cut_cover b R key hk).symm

/-- A whole buffer gives its parts holding anything. -/
theorem cut_any (f : Buf (Elt F) ((c : Thread nD τ).loc b)) :
    ((((c : Thread nD τ).loc b) ↦{fullShare} f) : sProp 𝕄) ⊢ bigSep Finset.univ fun t => any c (part b R t) := by
  rw [cut_eq c b R key hk]
  refine bigSep_mono fun t _ => ?_
  rw [← part_set b R key hk t]
  exact any_of c (part b R t) f

/-- Parts holding given blocks make up a whole buffer that reads them. -/
theorem join_blk (v : (t : T) → (R t).shape.Idx → Elt F b.ty.elt) :
    (bigSep Finset.univ fun t => (blk c (part b R t) (v t) : sProp 𝕄))
      ⊢ iprop(∃ g : Buf (Elt F) ((c : Thread nD τ).loc b), ⌜∀ t, (part b R t).read (Elt F) g = v t⌝ ∗ (((c : Thread nD τ).loc b) ↦{fullShare} g)) := by
  have hb (t : T) : (blk c (part b R t) (v t) : sProp 𝕄) = (((c : Thread nD τ).loc b) ↦[(R t).set]{fullShare} (part b R t).rep (v t)) := by
    unfold blk; rw [part_set b R key hk t]
  rw [bigSep_congr fun t _ => hb t]
  iintro H
  ihave H := (pointsTo_biUnion_join (ℓ := (c : Thread nD τ).loc b) (q := fullShare) Finset.univ (fun t => ((R t).set : Finset (Idx ((c : Thread nD τ).loc b))))
    (fun t => (part b R t).rep (v t)) (fun _ => Classical.arbitrary _) (cut_disjoint b R key hk)) $$ H
  icases H with ⟨%g, %hg, H⟩
  iexists g
  isplitr
  · ipureintro
    intro t
    refine Eq.trans ?_ ((part b R t).read_rep (v t))
    funext x
    have h := hg t (Finset.mem_univ t) ((part b R t).emb x) (by rw [← part_set b R key hk t]; exact (part b R t).emb_mem_set x)
    exact h
  rw [show Finset.univ.biUnion (fun t => ((R t).set : Finset (Idx ((c : Thread nD τ).loc b)))) = Finset.univ from cut_cover b R key hk]
  iexact H

/-- Parts holding anything make up a whole buffer. -/
theorem join_any :
    (bigSep Finset.univ fun t => (any c (part b R t) : sProp 𝕄))
      ⊢ iprop(∃ g : Buf (Elt F) ((c : Thread nD τ).loc b), (((c : Thread nD τ).loc b) ↦{fullShare} g)) := by
  unfold any
  iintro H
  ihave H := (BI.bigSep_exists_pi Finset.univ (fun (t : T) (v : (R t).shape.Idx → Elt F b.ty.elt) => (blk c (part b R t) v : sProp 𝕄))) $$ H
  icases H with ⟨%v, H⟩
  ihave H := (join_blk c b R key hk v) $$ H
  icases H with ⟨%g, -, H⟩
  iexists g; iexact H

end Cut

/-! ## The keys -/

theorem rect3_key (i : S3x512x512.Idx) (j : Fin 3) : i ∈ (rect3 j).set ↔ (i 0 : Fin 3) = j := by
  rw [Rect.mem_set_unit]
  constructor
  · intro h
    have h0 := h 0
    simp at h0
    exact Fin.ext (by omega)
  · rintro rfl a
    have h1 : (i 1).val < 512 := (i 1).isLt
    have h2 : (i 2).val < 512 := (i 2).isLt
    fin_cases a <;> simp <;> omega

theorem rect2_key (i : S2x512x512.Idx) (j : Fin 2) : i ∈ (rect2 j).set ↔ (i 0 : Fin 2) = j := by
  rw [Rect.mem_set_unit]
  constructor
  · intro h
    have h0 := h 0
    simp at h0
    exact Fin.ext (by omega)
  · rintro rfl a
    have h1 : (i 1).val < 512 := (i 1).isLt
    have h2 : (i 2).val < 512 := (i 2).isLt
    fin_cases a <;> simp <;> omega

/-- The columns an element lies in. -/
def colKey (i : S512x2048.Idx) : Fin 4 := ⟨(i 1).val / 512, by have h : (i 1).val < 2048 := (i 1).isLt; omega⟩
theorem colRect_key (i : S512x2048.Idx) (f : Fin 4) : i ∈ (colRect f).set ↔ colKey i = f := by
  rw [Rect.mem_set_unit]
  unfold colKey
  constructor
  · intro h
    have h0 := h 1
    simp at h0
    exact Fin.ext (by show (i 1).val / 512 = f.val; omega)
  · rintro rfl a
    have h1 : (i 0).val < 512 := (i 0).isLt
    fin_cases a <;> simp <;> omega

/-- The number device `d` gives the rows an element lies in. -/
def rowKey (d : Dev nD) (i : S4096x512.Idx) : Fin 8 := ⟨((i 0).val / 512 + 8 - d.val) % 8, by omega⟩
theorem rows_key (d : Dev nD) (i : S4096x512.Idx) (r : Fin 8) (off : Fin 2 → Nat) (hoff : off = ![512 * ((d.val + r.val) % 8), 0])
    (h : ∀ a, off a + S512x512.size a ≤ S4096x512.size a) : i ∈ (Rect.unit (s := S4096x512) off S512x512.size h).set ↔ rowKey d i = r := by
  rw [Rect.mem_set_unit]
  subst hoff
  have hd : d.val < 8 := d.isLt
  have hr := r.isLt
  have h0' : (i 0).val < 4096 := (i 0).isLt
  unfold rowKey
  constructor
  · intro h
    have h0 := h 0
    simp at h0
    exact Fin.ext (by show ((i 0).val / 512 + 8 - d.val) % 8 = r.val; omega)
  · rintro rfl a
    have h1 : (i 1).val < 512 := (i 1).isLt
    fin_cases a <;> simp <;> omega
theorem xRect_key (d : Dev nD) (i : S4096x512.Idx) (r : Fin 8) : i ∈ (xRect d r).set ↔ rowKey d i = r := rows_key d i r _ (k0_off1_eq d r) _
theorem xbRect_key (d : Dev nD) (i : S4096x512.Idx) (r : Fin 8) : i ∈ (xbRect d r).set ↔ rowKey d i = r := rows_key d i r _ (k0_off2_eq d r) _

theorem rectQ2_key (i : S4x2x512x512.Idx) (p : Fin 4 × Fin 2) : i ∈ (rectQ2 p.1 p.2).set ↔ ((i 0, i 1) : Fin 4 × Fin 2) = p := by
  rw [Rect.mem_set_unit]
  constructor
  · intro h
    have h0 := h 0
    have h1 := h 1
    simp at h0 h1
    exact Prod.ext (Fin.ext (by show (i 0).val = _; omega)) (Fin.ext (by show (i 1).val = _; omega))
  · rintro rfl a
    have h2 : (i 2).val < 512 := (i 2).isLt
    have h3 : (i 3).val < 512 := (i 3).isLt
    fin_cases a <;> simp <;> omega

theorem rectQ5_key (i : S4x5x512x512.Idx) (p : Fin 4 × Fin 5) : i ∈ (rectQ5 p.1 p.2).set ↔ ((i 0, i 1) : Fin 4 × Fin 5) = p := by
  rw [Rect.mem_set_unit]
  constructor
  · intro h
    have h0 := h 0
    have h1 := h 1
    simp at h0 h1
    exact Prod.ext (Fin.ext (by show (i 0).val = _; omega)) (Fin.ext (by show (i 1).val = _; omega))
  · rintro rfl a
    have h2 : (i 2).val < 512 := (i 2).isLt
    have h3 : (i 3).val < 512 := (i 3).isLt
    fin_cases a <;> simp <;> omega

/-! ## The buffers of the kernel -/

/-- The scratch buffers, each as its blocks, holding anything. -/
def scrBlks : sProp 𝕄 :=
  iprop((bigSep Finset.univ fun j : Fin 3 => any c (vXS j)) ∗ (bigSep Finset.univ fun j : Fin 2 => any c (vWS j))
    ∗ (bigSep Finset.univ fun r : Fin 8 => any c (vX c r)) ∗ (bigSep Finset.univ fun f : Fin 4 => any c (vW f))
    ∗ (bigSep Finset.univ fun f : Fin 4 => bigSep Finset.univ fun j : Fin 2 => any c (v4 f j))
    ∗ (bigSep Finset.univ fun f : Fin 4 => bigSep Finset.univ fun j : Fin 2 => any c (v5 f j))
    ∗ (bigSep Finset.univ fun f : Fin 4 => bigSep Finset.univ fun j : Fin 2 => any c (v6 f j))
    ∗ (bigSep Finset.univ fun f : Fin 4 => bigSep Finset.univ fun j : Fin 5 => any c (v7 f j))
    ∗ (bigSep Finset.univ fun f : Fin 4 => any c (vO f)))

theorem pairs_eq {n : ℕ} (Φ : Fin 4 → Fin n → sProp 𝕄) :
    (bigSep Finset.univ fun p : Fin 4 × Fin n => Φ p.1 p.2) = bigSep Finset.univ fun f : Fin 4 => bigSep Finset.univ fun j : Fin n => Φ f j :=
  bigSep_univ_prod fun p : Fin 4 × Fin n => Φ p.1 p.2

theorem scr_split : (Pipeline.scopedRest (Ix := Unit) (Name := ℕ) (U := UU) (Lvl := ℕ) (Val := Elt F) cfg0.spec c : sProp 𝕄) ⊢ scrBlks c := by
  rw [scopedRest0_eq]
  unfold scrBlks
  rw [← pairs_eq fun f (j : Fin 2) => any (F := F) c (v4 f j), ← pairs_eq fun f (j : Fin 2) => any (F := F) c (v5 f j),
    ← pairs_eq fun f (j : Fin 2) => any (F := F) c (v6 f j), ← pairs_eq fun f (j : Fin 5) => any (F := F) c (v7 f j)]
  iintro ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩
  isplitl [H0]; · iapply (cut_any c cc0_scratch0 rect3 (fun i => i 0) rect3_key f0) $$ H0
  isplitl [H1]; · iapply (cut_any c cc0_scratch1 rect2 (fun i => i 0) rect2_key f1) $$ H1
  isplitl [H2]; · iapply (cut_any c cc0_scratch2 (xbRect c) (rowKey c) (xbRect_key c) f2) $$ H2
  isplitl [H3]; · iapply (cut_any c cc0_scratch3 colRect colKey colRect_key f3) $$ H3
  isplitl [H4]; · iapply (cut_any c cc0_scratch4 (fun p : Fin 4 × Fin 2 => rectQ2 p.1 p.2) (fun i => (i 0, i 1)) rectQ2_key f4) $$ H4
  isplitl [H5]; · iapply (cut_any c cc0_scratch5 (fun p : Fin 4 × Fin 2 => rectQ2 p.1 p.2) (fun i => (i 0, i 1)) rectQ2_key f5) $$ H5
  isplitl [H6]; · iapply (cut_any c cc0_scratch6 (fun p : Fin 4 × Fin 2 => rectQ2 p.1 p.2) (fun i => (i 0, i 1)) rectQ2_key f6) $$ H6
  isplitl [H7]; · iapply (cut_any c cc0_scratch7 (fun p : Fin 4 × Fin 5 => rectQ5 p.1 p.2) (fun i => (i 0, i 1)) rectQ5_key f7) $$ H7
  iapply (cut_any c cc0_scratch8 colRect colKey colRect_key f8) $$ H8

theorem scr_join : scrBlks c ⊢ (Pipeline.scopedRest (Ix := Unit) (Name := ℕ) (U := UU) (Lvl := ℕ) (Val := Elt F) cfg0.spec c : sProp 𝕄) := by
  rw [scopedRest0_eq]
  unfold scrBlks
  rw [← pairs_eq fun f (j : Fin 2) => any (F := F) c (v4 f j), ← pairs_eq fun f (j : Fin 2) => any (F := F) c (v5 f j),
    ← pairs_eq fun f (j : Fin 2) => any (F := F) c (v6 f j), ← pairs_eq fun f (j : Fin 5) => any (F := F) c (v7 f j)]
  iintro ⟨H0, H1, H2, H3, H4, H5, H6, H7, H8⟩
  isplitl [H0]; · iapply (join_any c cc0_scratch0 rect3 (fun i => i 0) rect3_key) $$ H0
  isplitl [H1]; · iapply (join_any c cc0_scratch1 rect2 (fun i => i 0) rect2_key) $$ H1
  isplitl [H2]; · iapply (join_any c cc0_scratch2 (xbRect c) (rowKey c) (xbRect_key c)) $$ H2
  isplitl [H3]; · iapply (join_any c cc0_scratch3 colRect colKey colRect_key) $$ H3
  isplitl [H4]; · iapply (join_any c cc0_scratch4 (fun p : Fin 4 × Fin 2 => rectQ2 p.1 p.2) (fun i => (i 0, i 1)) rectQ2_key) $$ H4
  isplitl [H5]; · iapply (join_any c cc0_scratch5 (fun p : Fin 4 × Fin 2 => rectQ2 p.1 p.2) (fun i => (i 0, i 1)) rectQ2_key) $$ H5
  isplitl [H6]; · iapply (join_any c cc0_scratch6 (fun p : Fin 4 × Fin 2 => rectQ2 p.1 p.2) (fun i => (i 0, i 1)) rectQ2_key) $$ H6
  isplitl [H7]; · iapply (join_any c cc0_scratch7 (fun p : Fin 4 × Fin 5 => rectQ5 p.1 p.2) (fun i => (i 0, i 1)) rectQ5_key) $$ H7
  iapply (join_any c cc0_scratch8 colRect colKey colRect_key) $$ H8

variable (m : (ℓ : Loc nD τ sig) → Buf (Elt F) ℓ)

/-- The HBM array `x` as the launch left it is its rows. -/
theorem x_cut : ((((c : Thread nD τ).loc main_arg0) ↦{fullShare} m ((c : Thread nD τ).loc main_arg0)) : sProp 𝕄) = bigSep Finset.univ fun r : Fin 8 => xHeld m c r := by
  rw [cut_eq c main_arg0 (xRect c) (rowKey c) (xRect_key c)]
  exact bigSep_congr fun r _ => by
    unfold xHeld
    exact congrArg (fun S : Finset (Idx ((c : Thread nD τ).loc main_arg0)) => (((c : Thread nD τ).loc main_arg0) ↦[S]{fullShare} m ((c : Thread nD τ).loc main_arg0) : sProp 𝕄))
      (View.set_slice_whole main_arg0 (xRect c r)).symm

/-- The HBM array `w` as the launch left it is its columns. -/
theorem w_cut : ((((c : Thread nD τ).loc main_arg1) ↦{fullShare} m ((c : Thread nD τ).loc main_arg1)) : sProp 𝕄) = bigSep Finset.univ fun f : Fin 4 => wHeld m c f := by
  rw [cut_eq c main_arg1 colRect colKey colRect_key]
  exact bigSep_congr fun f _ => by
    unfold wHeld
    exact congrArg (fun S : Finset (Idx ((c : Thread nD τ).loc main_arg1)) => (((c : Thread nD τ).loc main_arg1) ↦[S]{fullShare} m ((c : Thread nD τ).loc main_arg1) : sProp 𝕄))
      (View.set_slice_whole main_arg1 (colRect f)).symm

/-- The HBM result gives its columns holding anything; -/
theorem o_cut (g : Buf (Elt F) ((c : Thread nD τ).loc main_v1)) :
    ((((c : Thread nD τ).loc main_v1) ↦{fullShare} g) : sProp 𝕄) ⊢ bigSep Finset.univ fun f : Fin 4 => any c (vH f) :=
  cut_any c main_v1 colRect colKey colRect_key g

/-- its columns make up a result that reads them. -/
theorem o_join (v : Fin 4 → Vec F S512x512 .f32) :
    (bigSep Finset.univ fun f : Fin 4 => (blk c (vH f) (v f) : sProp 𝕄))
      ⊢ iprop(∃ g : Buf (Elt F) ((c : Thread nD τ).loc main_v1), ⌜∀ f, (vH f).read (Elt F) g = v f⌝ ∗ (((c : Thread nD τ).loc main_v1) ↦{fullShare} g)) :=
  join_blk c main_v1 colRect colKey colRect_key v

end Cert.KernelIdeal.Ring
-- ==== Proof.Run.lean ====
module

public import proofs.«01_k».proof.Proof.Split

/-! The whole body on one device: from its buffers, tokens and credits to the result. -/

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × Cell → ℕ) (c : Dev nD)
variable {Q : PUnit.{1} → sProp (MT nD τ sig Unit (Elt F) ℕ UU ℕ)}

/-! ## Small families written out -/

theorem sep2 (Φ : Fin 2 → sProp 𝕄) : bigSep Finset.univ Φ = iprop(Φ 0 ∗ Φ 1) := bigSep_univ_eq_bigSepL [0, 1] (by decide) (by decide) Φ
theorem sep3 (Φ : Fin 3 → sProp 𝕄) : bigSep Finset.univ Φ = iprop(Φ 0 ∗ Φ 1 ∗ Φ 2) := bigSep_univ_eq_bigSepL [0, 1, 2] (by decide) (by decide) Φ
theorem sep4 (Φ : Fin 4 → sProp 𝕄) : bigSep Finset.univ Φ = iprop(Φ 0 ∗ Φ 1 ∗ Φ 2 ∗ Φ 3) := bigSep_univ_eq_bigSepL [0, 1, 2, 3] (by decide) (by decide) Φ
theorem sep5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## A flow's beginning and end -/

/-- The receive slots of a flow, gathered from the two buffers. -/
theorem slots_intro (f : Fin 4) :
    iprop((bigSep Finset.univ fun j : Fin 2 => any c (v5 f j)) ∗ (bigSep Finset.univ fun j : Fin 5 => any c (v7 f j))) ⊢ (slots c f : sProp 𝕄) := by
  unfold slots
  rw [sep2, sep5]
  iintro ⟨⟨H0, H1⟩, H⟩
  isplitl [H0]; · iexact H0
  isplitl [H1] <;> iassumption

/-- A flow's beginning. -/
theorem flow_intro (f : Fin 4) :
    (slots (dst f c) f : sProp 𝕄) ⊢ iprop((bigSep Finset.univ fun j : Fin 2 => any c (v4 f j)) -∗ (bigSep Finset.univ fun j : Fin 2 => any c (v6 f j))
      -∗ (bigSep Finset.univ fun s : Fin 7 => todoS c f s) -∗ (bigSep Finset.univ fun s : Fin 7 => todoR c f s) -∗ flow m c f 0) := by
  unfold slots
  rw [sep2, sep2, sep7, sep7, show flow m c f 0 = iprop(need c f 0 ∗ need c f 1 ∗ need c f 2 ∗ need c f 3 ∗ need c f 4 ∗ need c f 5 ∗ need c f 6 ∗ need c f 7 ∗ emp)
    from rfl]
  unfold need
  iintro ⟨D0, D1, D2, D3, D4, D5, D6⟩ ⟨A0, A1⟩ ⟨B0, B1⟩ ⟨S0, S1, S2, S3, S4, S5, S6⟩ ⟨R0, R1, R2, R3, R4, R5, R6⟩
  isplitl [D0 S0 A0]
  · isplitl [D0]; · iexact D0
    isplitl [S0] <;> iassumption
  isplitl [D1 S1 R0 A1]
  · isplitl [D1]; · iexact D1
    isplitl [S1]; · iexact S1
    isplitl [R0] <;> iassumption
  isplitl [D2 S2 R1 B0]
  · isplitl [D2]; · iexact D2
    isplitl [S2]; · iexact S2
    isplitl [R1] <;> iassumption
  isplitl [D3 S3 R2 B1]
  · isplitl [D3]; · iexact D3
    isplitl [S3]; · iexact S3
    isplitl [R2] <;> iassumption
  isplitl [D4 S4 R3]
  · isplitl [D4]; · iexact D4
    isplitl [S4] <;> iassumption
  isplitl [D5 S5 R4]
  · isplitl [D5]; · iexact D5
    isplitl [S5] <;> iassumption
  isplitl [D6 S6 R5]
  · isplitl [D6]; · iexact D6
    isplitl [S6] <;> iassumption
  isplitl [R6]; · iexact R6
  iempintro

/-- A flow's end, as it goes back to the buffers. -/
theorem flow_elim (f : Fin 4) :
    (flowEnd c f : sProp 𝕄) ⊢ iprop((bigSep Finset.univ fun j : Fin 2 => any c (v4 f j)) ∗ (bigSep Finset.univ fun j : Fin 2 => any c (v5 f j))
      ∗ (bigSep Finset.univ fun j : Fin 2 => any c (v6 f j)) ∗ (bigSep Finset.univ fun j : Fin 5 => any c (v7 f j))
      ∗ (bigSep Finset.univ fun s : Fin 7 => semVal (sCell c f s) 0) ∗ (bigSep Finset.univ fun s : Fin 7 => semVal (rCell c f s) 0)) := by
  unfold flowEnd slots
  rw [sep2, sep2, sep2, sep5, sep7, sep7]
  iintro ⟨HA, HB, ⟨D0, D1, D⟩, HS, HR⟩
  isplitl [HA]; · iexact HA
  isplitl [D0 D1]
  · isplitl [D0] <;> iassumption
  isplitl [HB]; · iexact HB
  isplitl [D]; · iexact D
  isplitl [HS] <;> iassumption

/-! ## The body -/

/-- The semaphores only this device touches, at zero. -/
def ownZero : sProp 𝕄 :=
  iprop((bigSep Finset.univ fun j : Fin 3 => semVal (xCell c j) 0) ∗ (bigSep Finset.univ fun j : Fin 2 => semVal (wCell c j) 0)
    ∗ (bigSep Finset.univ fun f : Fin 4 => semVal (oCell c f) 0))
/-- The semaphores of the hops, at zero. -/
def hopZero : sProp 𝕄 :=
  iprop((bigSep Finset.univ fun f : Fin 4 => bigSep Finset.univ fun s : Fin 7 => semVal (sCell c f s) 0)
    ∗ (bigSep Finset.univ fun f : Fin 4 => bigSep Finset.univ fun s : Fin 7 => semVal (rCell c f s) 0))
/-- What the barrier takes. -/
def barTodo : sProp 𝕄 :=
  iprop(cred (tallyAt (barCell c) () 2) ∗ atPos ER (barCell c) 0 ∅ 0 ∗ dutyTok ER (barCell (prv c)) 0 true ∗ dutyTok ER (barCell (nxt c)) 0 false)
/-- What the hops take. -/
def hopTodo : sProp 𝕄 :=
  iprop((bigSep Finset.univ fun f : Fin 4 => bigSep Finset.univ fun s : Fin 7 => todoS c f s)
    ∗ (bigSep Finset.univ fun f : Fin 4 => bigSep Finset.univ fun s : Fin 7 => todoR c f s))
/-- The arrays `x` and `w` of HBM as the launch left them. -/
def hbmIn : sProp 𝕄 := iprop((bigSep Finset.univ fun r : Fin 8 => xHeld m c r) ∗ (bigSep Finset.univ fun f : Fin 4 => wHeld m c f))

section
variable (sx sw : Memref sig .tc .smem S1 .f32) (X : Buf (Elt F) (sx.view.loc (c : Thread nD τ))) (Y : Buf (Elt F) (sw.view.loc (c : Thread nD τ)))

/-- What the body leaves. -/
def runEnd : sProp 𝕄 :=
  iprop(scrBlks c ∗ hbmIn m c ∗ (bigSep Finset.univ fun f : Fin 4 => blk c (vH f) (res m c (wordOf sx X) (wordOf sw Y) f))
    ∗ ownZero c ∗ hopZero c ∗ semVal (barCell c) 0 ∗ (sx.view.loc (c : Thread nD τ) ↦{fullShare} X) ∗ (sw.view.loc (c : Thread nD τ) ↦{fullShare} Y) ∗ owing c [])

set_option maxHeartbeats 4000000 in
/-- The body of the kernel on device `c`. -/
theorem run_blk (W : Waits sig Unit) :
    ctx m K ⊢ iprop(scrBlks c -∗ hbmIn m c -∗ (bigSep Finset.univ fun f : Fin 4 => any c (vH f)) -∗ ownZero c -∗ barTodo c -∗ hopTodo c
      -∗ (sx.view.loc (c : Thread nD τ) ↦{fullShare} X) -∗ (sw.view.loc (c : Thread nD τ) ↦{fullShare} Y) -∗ owes (c : Thread nD τ) (owe0 c sends0) W
      -∗ (runEnd m c sx sw X Y -∗ Q ⟨⟩) -∗ WP c (run c sx sw) Q) := by
  unfold run
  rw [WP_bind]; simp only [WP_bind c (meet _), WP_bind c (opening _), WP_bind c (round0 _), WP_bind c (round1 _), WP_bind c (round2 _), WP_bind c (round3 _),
    WP_bind c (round4 _), WP_bind c (round5 _), WP_bind c (round6 _ _ _)]
  unfold scrBlks hbmIn ownZero barTodo hopTodo
  rw [sep3 fun j => any c (vXS j), sep2 fun j => any c (vWS j), sep8 fun r => any c (vX c r), sep4 fun f => any c (vW f),
    sep4 fun f => bigSep Finset.univ fun j : Fin 2 => any c (v4 f j), sep4 fun f => bigSep Finset.univ fun j : Fin 2 => any c (v5 f j),
    sep4 fun f => bigSep Finset.univ fun j : Fin 2 => any c (v6 f j), sep4 fun f => bigSep Finset.univ fun j : Fin 5 => any c (v7 f j),
    sep4 fun f => any c (vO f), sep8 fun r => xHeld m c r, sep4 fun f => wHeld m c f, sep4 fun f => any c (vH f),
    sep3 fun j => semVal (xCell c j) 0, sep2 fun j => semVal (wCell c j) 0, sep4 fun f => semVal (oCell c f) 0,
    sep4 fun f => bigSep Finset.univ fun s : Fin 7 => todoS c f s, sep4 fun f => bigSep Finset.univ fun s : Fin 7 => todoR c f s]
  iintro #HC ⟨⟨a0, a1, a2⟩, ⟨b0, b1⟩, ⟨x0, x1, x2, x3, x4, x5, x6, x7⟩, ⟨w0, w1, w2, w3⟩, ⟨p0, p1, p2, p3⟩, ⟨q0, q1, q2, q3⟩, ⟨r0, r1, r2, r3⟩, ⟨s0, s1, s2, s3⟩, ⟨o0, o1, o2, o3⟩⟩
    ⟨⟨h0, h1, h2, h3, h4, h5, h6, h7⟩, ⟨g0, g1, g2, g3⟩⟩ ⟨y0, y1, y2, y3⟩ ⟨⟨za0, za1, za2⟩, ⟨zb0, zb1⟩, ⟨zo0, zo1, zo2, zo3⟩⟩ ⟨hc, hat, hp, hn⟩
    ⟨⟨S0, S1, S2, S3⟩, ⟨R0, R1, R2, R3⟩⟩ HX HY HO Hk
  -- the copies before the barrier
  iapply (openCopies_blk m c) $$ [h7 x7] [h1 x1] [h6 x6] [g0 w0] [g1 w1] [a0 za0] [a1 za1] [a2 za2] [b0 zb0] [b1 zb1]
  · unfold xTodo; isplitl [h7] <;> iassumption
  · unfold xTodo; isplitl [h1] <;> iassumption
  · unfold xTodo; isplitl [h6] <;> iassumption
  · unfold wTodo; isplitl [g0] <;> iassumption
  · unfold wTodo; isplitl [g1] <;> iassumption
  · unfold xFree; isplitl [a0] <;> iassumption
  · unfold xFree; isplitl [a1] <;> iassumption
  · unfold xFree; isplitl [a2] <;> iassumption
  · unfold wFree; isplitl [b0] <;> iassumption
  · unfold wFree; isplitl [b1] <;> iassumption
  iintro ⟨M7, M1, M6, V0, V1⟩
  -- the barrier
  ihave q0 := (slots_intro c 0) $$ [q0 s0]
  · isplitl [q0] <;> iassumption
  ihave q1 := (slots_intro c 1) $$ [q1 s1]
  · isplitl [q1] <;> iassumption
  ihave q2 := (slots_intro c 2) $$ [q2 s2]
  · isplitl [q2] <;> iassumption
  ihave q3 := (slots_intro c 3) $$ [q3 s3]
  · isplitl [q3] <;> iassumption
  iapply (meet_blk m K c sends0 W) $$ [HO q0 q1 q2 q3 hc hat hp hn]
  · unfold ctx; icases HC with ⟨#HR, #Hlev⟩
    isplitr; · iexact HR
    isplitr; · iexact Hlev
    isplitl [HO]; · iexact HO
    isplitl [q0 q1 q2 q3]
    · isplitl [q0]; · iexact q0
      isplitl [q1]; · iexact q1
      isplitl [q2] <;> iassumption
    isplitl [hc]; · iexact hc
    isplitl [hat]; · iexact hat
    isplitl [hp] <;> iassumption
  iintro ⟨⟨q0, q1⟩, ⟨q2, q3⟩, zbar, HO⟩
  ihave q0 := (Entails.of_eq (show (slots (nxt c) 0 : sProp 𝕄) = slots (dst 0 c) 0 from rfl)) $$ q0
  ihave L0 := (flow_intro m c 0) $$ q0 p0 r0 S0 R0
  ihave q1 := (Entails.of_eq (show (slots (nxt c) 1 : sProp 𝕄) = slots (dst 1 c) 1 from rfl)) $$ q1
  ihave L1 := (flow_intro m c 1) $$ q1 p1 r1 S1 R1
  ihave q2 := (Entails.of_eq (show (slots (prv c) 2 : sProp 𝕄) = slots (dst 2 c) 2 from rfl)) $$ q2
  ihave L2 := (flow_intro m c 2) $$ q2 p2 r2 S2 R2
  ihave q3 := (Entails.of_eq (show (slots (prv c) 3 : sProp 𝕄) = slots (dst 3 c) 3 from rfl)) $$ q3
  ihave L3 := (flow_intro m c 3) $$ q3 p3 r3 S3 R3
  -- the hops
  iapply (opening_blk m K c) $$ HC M7 M1 V0 V1 [h2 x2] [h5 x5] [g2 w2] [g3 w3] [L0 L1 L2 L3] HO
  · unfold xTodo; isplitl [h2] <;> iassumption
  · unfold xTodo; isplitl [h5] <;> iassumption
  · unfold wTodo; isplitl [g2] <;> iassumption
  · unfold wTodo; isplitl [g3] <;> iassumption
  · unfold flows
    isplitl [L0]; · iexact L0
    isplitl [L1]; · iexact L1
    isplitl [L2] <;> iassumption
  iintro ⟨⟨x7, h7⟩, ⟨x1, h1⟩, M2, M5, ⟨b0, b1⟩, HW, HB, HL, HO⟩
  iapply (round0_blk m K c) $$ HC M6 M2 [h3 x3] [h4 x4] HW HL HO
  · unfold xTodo; isplitl [h3] <;> iassumption
  · unfold xTodo; isplitl [h4] <;> iassumption
  iintro ⟨⟨x6, h6⟩, ⟨x2, h2⟩, M3, M4, HW, HL, HO⟩
  iapply (round1_blk m K c) $$ HC M5 M3 [h0 x0] HW HL HO
  · unfold xTodo; isplitl [h0] <;> iassumption
  iintro ⟨⟨x5, h5⟩, ⟨x3, h3⟩, M0, a2, HW, HL, HO⟩
  iapply (round2_blk m K c) $$ HC M4 HW HL HO
  iintro ⟨⟨x4, h4⟩, a0, HW, HL, HO⟩
  iapply (round3_blk m K c) $$ HC x3 x5 HW HL HO
  iintro ⟨x3, x5, HW, HL, HO⟩
  iapply (round4_blk m K c) $$ HC x2 x6 HW HL HO
  iintro ⟨x2, x6, HW, HL, HO⟩
  iapply (round5_blk m K c) $$ HC x1 x7 HW HL HO
  iintro ⟨x1, x7, HW, HL, HO⟩
  iapply (round6_blk m K c sx sw X Y) $$ HC M0 HW HX HY HL [o0 o1 o2 o3 y0 y1 y2 y3 zo0 zo1 zo2 zo3] HO
  · unfold outs outTodo
    isplitl [o0 y0 zo0]
    · isplitl [o0]; · iexact o0
      isplitl [y0] <;> iassumption
    isplitl [o1 y1 zo1]
    · isplitl [o1]; · iexact o1
      isplitl [y1] <;> iassumption
    isplitl [o2 y2 zo2]
    · isplitl [o2]; · iexact o2
      isplitl [y2] <;> iassumption
    isplitl [o3]; · iexact o3
    isplitl [y3] <;> iassumption
  iintro ⟨⟨x0, h0⟩, a1, HW, HX, HY, HL, HF, HO⟩
  iapply (closing_blk m K c (wordOf sx X) (wordOf sw Y)) $$ HC HL HF HO
  unfold outEnd wAll wBack xFree wFree
  iintro ⟨⟨L0, L1, L2, L3⟩, ⟨⟨y0, o0, zo0⟩, ⟨y1, o1, zo1⟩, ⟨y2, o2, zo2⟩, ⟨y3, o3, zo3⟩⟩, HO⟩
  icases HW with ⟨w0, w1, w2, w3⟩
  icases HB with ⟨g0, g1, g2, g3⟩
  icases a0 with ⟨a0, za0⟩
  icases a1 with ⟨a1, za1⟩
  icases a2 with ⟨a2, za2⟩
  icases b0 with ⟨b0, zb0⟩
  icases b1 with ⟨b1, zb1⟩
  ihave L0 := (flow_elim c 0) $$ L0
  ihave L1 := (flow_elim c 1) $$ L1
  ihave L2 := (flow_elim c 2) $$ L2
  ihave L3 := (flow_elim c 3) $$ L3
  icases L0 with ⟨p0, q0, r0, s0, S0, R0⟩
  icases L1 with ⟨p1, q1, r1, s1, S1, R1⟩
  icases L2 with ⟨p2, q2, r2, s2, S2, R2⟩
  icases L3 with ⟨p3, q3, r3, s3, S3, R3⟩
  have hx (r : Fin 8) : xIn m c r ⊢ any (F := F) c (vX c r) := by unfold xIn; exact any_intro c (vX c r) _
  have hw (f : Fin 4) : wIn m c f ⊢ any (F := F) c (vW f) := by unfold wIn; exact any_intro c (vW f) _
  iapply Hk
  unfold runEnd scrBlks hbmIn ownZero hopZero
  rw [sep3 fun j => any c (vXS j), sep2 fun j => any c (vWS j), sep8 fun r => any c (vX c r), sep4 fun f => any c (vW f),
    sep4 fun f => bigSep Finset.univ fun j : Fin 2 => any c (v4 f j), sep4 fun f => bigSep Finset.univ fun j : Fin 2 => any c (v5 f j),
    sep4 fun f => bigSep Finset.univ fun j : Fin 2 => any c (v6 f j), sep4 fun f => bigSep Finset.univ fun j : Fin 5 => any c (v7 f j),
    sep4 fun f => any c (vO f), sep8 fun r => xHeld m c r, sep4 fun f => wHeld m c f, sep4 fun f => blk c (vH f) (res m c (wordOf sx X) (wordOf sw Y) f),
    sep3 fun j => semVal (xCell c j) 0, sep2 fun j => semVal (wCell c j) 0, sep4 fun f => semVal (oCell c f) 0,
    sep4 fun f => bigSep Finset.univ fun s : Fin 7 => semVal (sCell c f s) 0, sep4 fun f => bigSep Finset.univ fun s : Fin 7 => semVal (rCell c f s) 0]
  isplitl [a0 a1 a2 b0 b1 x0 x1 x2 x3 x4 x5 x6 x7 w0 w1 w2 w3 p0 p1 p2 p3 q0 q1 q2 q3 r0 r1 r2 r3 s0 s1 s2 s3 o0 o1 o2 o3]
  · isplitl [a0 a1 a2]
    · isplitl [a0]; · iexact a0
      isplitl [a1] <;> iassumption
    isplitl [b0 b1]
    · isplitl [b0] <;> iassumption
    isplitl [x0 x1 x2 x3 x4 x5 x6 x7]
    · isplitl [x0]; · iapply (hx 0) $$ x0
      isplitl [x1]; · iapply (hx 1) $$ x1
      isplitl [x2]; · iapply (hx 2) $$ x2
      isplitl [x3]; · iapply (hx 3) $$ x3
      isplitl [x4]; · iapply (hx 4) $$ x4
      isplitl [x5]; · iapply (hx 5) $$ x5
      isplitl [x6]; · iapply (hx 6) $$ x6
      iapply (hx 7) $$ x7
    isplitl [w0 w1 w2 w3]
    · isplitl [w0]; · iapply (hw 0) $$ w0
      isplitl [w1]; · iapply (hw 1) $$ w1
      isplitl [w2]; · iapply (hw 2) $$ w2
      iapply (hw 3) $$ w3
    isplitl [p0 p1 p2 p3]
    · isplitl [p0]; · iexact p0
      isplitl [p1]; · iexact p1
      isplitl [p2] <;> iassumption
    isplitl [q0 q1 q2 q3]
    · isplitl [q0]; · iexact q0
      isplitl [q1]; · iexact q1
      isplitl [q2] <;> iassumption
    isplitl [r0 r1 r2 r3]
    · isplitl [r0]; · iexact r0
      isplitl [r1]; · iexact r1
      isplitl [r2] <;> iassumption
    isplitl [s0 s1 s2 s3]
    · isplitl [s0]; · iexact s0
      isplitl [s1]; · iexact s1
      isplitl [s2] <;> iassumption
    isplitl [o0]; · iapply (any_intro c (vO 0) _) $$ o0
    isplitl [o1]; · iapply (any_intro c (vO 1) _) $$ o1
    isplitl [o2]; · iapply (any_intro c (vO 2) _) $$ o2
    iapply (any_intro c (vO 3) _) $$ o3
  isplitl [h0 h1 h2 h3 h4 h5 h6 h7 g0 g1 g2 g3]
  · isplitl [h0 h1 h2 h3 h4 h5 h6 h7]
    · isplitl [h0]; · iexact h0
      isplitl [h1]; · iexact h1
      isplitl [h2]; · iexact h2
      isplitl [h3]; · iexact h3
      isplitl [h4]; · iexact h4
      isplitl [h5]; · iexact h5
      isplitl [h6] <;> iassumption
    isplitl [g0]; · iexact g0
    isplitl [g1]; · iexact g1
    isplitl [g2] <;> iassumption
  isplitl [y0 y1 y2 y3]
  · isplitl [y0]; · iexact y0
    isplitl [y1]; · iexact y1
    isplitl [y2] <;> iassumption
  isplitl [za0 za1 za2 zb0 zb1 zo0 zo1 zo2 zo3]
  · isplitl [za0 za1 za2]
    · isplitl [za0]; · iexact za0
      isplitl [za1] <;> iassumption
    isplitl [zb0 zb1]
    · isplitl [zb0] <;> iassumption
    isplitl [zo0]; · iexact zo0
    isplitl [zo1]; · iexact zo1
    isplitl [zo2] <;> iassumption
  isplitl [S0 S1 S2 S3 R0 R1 R2 R3]
  · isplitl [S0 S1 S2 S3]
    · isplitl [S0]; · iexact S0
      isplitl [S1]; · iexact S1
      isplitl [S2] <;> iassumption
    isplitl [R0]; · iexact R0
    isplitl [R1]; · iexact R1
    isplitl [R2] <;> iassumption
  isplitl [zbar]; · iexact zbar
  isplitl [HX]; · iexact HX
  isplitl [HY] <;> iassumption

end

end Cert.KernelIdeal.Ring
-- ==== Proof.Deal.lean ====
module

public import proofs.«01_k».proof.Proof.Run

/-! What the launch deals out: the semaphores, the tokens and the credits of the ring. -/

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the cells -/

theorem sepOpt {I : Type} [Fintype I] [DecidableEq I] (Φ : Option I → sProp 𝕄) :
    bigSep Finset.univ Φ = iprop(Φ none ∗ bigSep Finset.univ fun i => Φ (some i)) := by
  rw [bigSep_univ_equiv (Equiv.optionEquivSumPUnit.{0, 0} I).symm Φ, bigSep_univ_sum, bigSep_univ_of_subsingleton PUnit.unit]
  exact BI.equiv_iff.mp ⟨BI.sep_comm, BI.sep_comm⟩

theorem sepBool (Φ : Bool → sProp 𝕄) : bigSep Finset.univ Φ = iprop(Φ false ∗ Φ true) := bigSep_univ_eq_bigSepL [false, true] (by decide) (by decide) Φ

/-- A family over the hops, departures apart from arrivals. -/
theorem sepHops (Φ : Bool × Fin 4 × Fin 7 → sProp 𝕄) :
    bigSep Finset.univ Φ = iprop((bigSep Finset.univ fun f : Fin 4 => bigSep Finset.univ fun s : Fin 7 => Φ (false, f, s))
      ∗ (bigSep Finset.univ fun f : Fin 4 => bigSep Finset.univ fun s : Fin 7 => Φ (true, f, s))) := by
  rw [bigSep_univ_prod, sepBool, bigSep_univ_prod, bigSep_univ_prod]

/-- A family over the cells of a device: the barrier, the departures, the arrivals. -/
theorem sepCells (Φ : Cell → sProp 𝕄) :
    bigSep Finset.univ Φ = iprop(Φ none ∗ (bigSep Finset.univ fun f : Fin 4 => bigSep Finset.univ fun s : Fin 7 => Φ (some (false, f, s)))
      ∗ (bigSep Finset.univ fun f : Fin 4 => bigSep Finset.univ fun s : Fin 7 => Φ (some (true, f, s)))) := by
  rw [sepOpt, sepHops]

/-- The turn of the ring each flow makes. -/
def turn : Dev nD × Fin 4 × Fin 7 ≃ Dev nD × Fin 4 × Fin 7 where
  toFun p := (dst p.2.1 p.1, p.2)
  invFun p := (src p.2.1 p.1, p.2)
  left_inv p := Prod.ext (src_dst p.2.1 p.1) rfl
  right_inv p := Prod.ext (dst_src p.2.1 p.1) rfl

/-- A family over the devices and the hops, each hop turned by its flow. -/
theorem sep_turn (Φ : Dev nD → Fin 4 → Fin 7 → sProp 𝕄) :
    (bigSep Finset.univ fun c : Dev nD => bigSep Finset.univ fun f : Fin 4 => bigSep Finset.univ fun s : Fin 7 => Φ c f s)
      = bigSep Finset.univ fun c : Dev nD => bigSep Finset.univ fun f : Fin 4 => bigSep Finset.univ fun s : Fin 7 => Φ (dst f c) f s := by
  have h (Ψ : Dev nD → Fin 4 → Fin 7 → sProp 𝕄) :
      (bigSep Finset.univ fun c : Dev nD => bigSep Finset.univ fun f : Fin 4 => bigSep Finset.univ fun s : Fin 7 => Ψ c f s)
        = bigSep Finset.univ fun p : Dev nD × Fin 4 × Fin 7 => Ψ p.1 p.2.1 p.2.2 := by
    rw [bigSep_univ_prod]
    exact bigSep_congr fun c _ => (bigSep_univ_prod fun q : Fin 4 × Fin 7 => Ψ c q.1 q.2).symm
  rw [h, h fun c f s => Φ (dst f c) f s]
  exact bigSep_univ_equiv turn _

/-! ## The launch element -/

/-- The cells of the ring. -/
def ringCells : Finset (GSem nD τ sig) := Finset.univ.map ⟨kcell, kcell_injective⟩

/-- The duty tokens of a device's own cells: its barrier's second one (`none`), and each cell's first. -/
def tokOf (p : Dev nD × Option Cell) : GSem nD τ sig × ℕ × Bool := p.2.elim (barCell p.1, 0, true) fun k => (kcell (p.1, k), 0, false)

theorem tokOf_injective : Function.Injective tokOf := by
  rintro ⟨c, _ | k⟩ ⟨c', _ | k'⟩ h
  · have h1 : ((c, none) : Dev nD × Cell) = (c', none) := kcell_injective (congrArg Prod.fst h)
    rw [(Prod.mk.inj h1).1]
  · exact absurd (congrArg (fun x : GSem nD τ sig × ℕ × Bool => x.2.2) h) Bool.noConfusion
  · exact absurd (congrArg (fun x : GSem nD τ sig × ℕ × Bool => x.2.2) h) Bool.noConfusion
  · have h1 : ((c, k) : Dev nD × Cell) = (c', k') := kcell_injective (congrArg Prod.fst h)
    rw [(Prod.mk.inj h1).1, (Prod.mk.inj h1).2]

def ringToks : Finset (GSem nD τ sig × ℕ × Bool) := Finset.univ.map ⟨tokOf, tokOf_injective⟩

/-- The launch element. -/
def u₀ : UU := (initOf (Pipeline.cells cfgs cellOf_inj) (Pipeline.launchToks cfgs cellOf_inj), (Emb.inl : Emb UB (UB × Counters)) (initOf ringCells ringToks))

/-- The duty tokens of device `c`'s own cells. -/
def toks (c : Dev nD) : sProp 𝕄 := iprop(dutyTok ER (barCell c) 0 true ∗ bigSep Finset.univ fun k : Cell => dutyTok ER (kcell (c, k)) 0 false)

/-- What the launch element deals device `c`. -/
def G (c : Dev nD) : sProp 𝕄 :=
  iprop((bigSep Finset.univ fun k : Cell => roundState ER (Rd m) (kcell (c, k)) 0)
    ∗ (bigSep Finset.univ fun k : Cell => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [sepOpt]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The kernel's own semaphores -/

/-- The kernel's own semaphores: those of the copies in and out, and those of the hops. -/
abbrev Own : Type := (Fin 3 ⊕ Fin 2 ⊕ Fin 4) ⊕ (Bool × Fin 4 × Fin 7)
abbrev osem : Own → SemLoc sig
  | .inl (.inl j) => .dma (xSem j)
  | .inl (.inr (.inl j)) => .dma (wSem j)
  | .inl (.inr (.inr f)) => .dma (oSem f)
  | .inr k => csem (some k)

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop(ownZero c ∗ bigSep Finset.univ fun k : Bool × Fin 4 × Fin 7 => semVal (kcell (c, some k)) 0) := by
  unfold Pipeline.ownSems0 ownZero
  rw [bigSep_univ_sum, bigSep_univ_sum, bigSep_univ_sum]; rfl

theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (Rd m) κ (kcell (c, k))))
          ∗ (bigSep Finset.univ fun k : Cell => iprop(atPos ER (kcell (c, k)) 0 ∅ 0 ∗ reached ER (kcell (c, k)) 0)) ∗ toks c ∗ ownZero c) := by
  unfold G
  rw [ownSems0_eq, unscopedSems0_eq]
  iintro ⟨⟨Hz, Hos⟩, Hus, Hst, Hat, Htok⟩
  imod (show iprop((semVal (barCell c) 0 ∗ bigSep Finset.univ fun k : Bool × Fin 4 × Fin 7 => semVal (kcell (c, some k)) 0)
        ∗ bigSep Finset.univ fun k : Cell => roundState ER (Rd m) (kcell (c, k)) 0)
      ⊢ (|={Set.univ}=> bigSep Finset.univ fun k : Cell => iprop(∃ κ : ℕ, cellInv ER (Rd m) κ (kcell (c, k))) : sProp 𝕄) from by
        rw [← sepOpt fun k : Cell => (semVal (kcell (c, k)) 0 : sProp 𝕄), ← bigSep_sep']
        exact (bigSep_mono fun k _ => (Rounds.body_intro ER (Rd m) (kcell (c, k))).trans inv_alloc).trans (bigSep_fupd _ _)) $$ [Hos Hus Hst] with Hinv
  · isplitl [Hos Hus]
    · isplitl [Hus] <;> iassumption
    iexact Hst
  imodintro
  isplitl [Hinv]; · iexact Hinv
  isplitl [Hat]; · iexact Hat
  isplitl [Htok] <;> iassumption

/-! ## What stays with each device -/

/-- What stays with device `c`: its own semaphores, its positions, and the tokens of the duties it pays. -/
def linear (c : Dev nD) : sProp 𝕄 :=
  iprop(ownZero c ∗ (atPos ER (barCell c) 0 ∅ 0 ∗ dutyTok ER (barCell (prv c)) 0 true ∗ dutyTok ER (barCell (nxt c)) 0 false)
    ∗ (bigSep Finset.univ fun f : Fin 4 => bigSep Finset.univ fun s : Fin 7 => todoS c f s)
    ∗ (bigSep Finset.univ fun f : Fin 4 => bigSep Finset.univ fun s : Fin 7 => atPos ER (rCell c f s) 0 ∅ 0))

/-- What the global step makes of it. -/
def G' (c : Dev nD) : sProp 𝕄 := iprop(∃ K, records m K ∗ linear c)

/-- The positions and the tokens, dealt around the ring. -/
theorem deal :
    iprop((bigSep Finset.univ fun c : Dev nD => bigSep Finset.univ fun k : Cell => (atPos ER (kcell (c, k)) 0 ∅ 0 : sProp 𝕄))
        ∗ (bigSep Finset.univ fun c : Dev nD => toks c) ∗ bigSep Finset.univ fun c : Dev nD => ownZero c)
      ⊢ bigSep Finset.univ fun c : Dev nD => (linear c : sProp 𝕄) := by
  unfold toks linear todoS sendToks
  simp only [sepCells, bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    sep_turn fun c f s => (dutyTok ER (rCell c f s) 0 false : sProp 𝕄)]
  iintro ⟨⟨Ab, As, Ar⟩, ⟨Tt, Tf, Ts, Tr⟩, Hz⟩
  isplitl [Hz]; · iexact Hz
  isplitl [Ab Tt Tf]
  · isplitl [Ab]; · iexact Ab
    isplitl [Tt]; · iexact Tt
    iexact Tf
  isplitl [As Ts Tr]
  · isplitr [As]
    · isplitl [Ts]; · iexact Ts
      iexact Tr
    iexact As
  iexact Ar

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (Rd m) κ (kcell (c, k))))
          ∗ (bigSep Finset.univ fun k : Cell => iprop(atPos ER (kcell (c, k)) 0 ∅ 0 ∗ reached ER (kcell (c, k)) 0)) ∗ toks c ∗ ownZero c) : sProp 𝕄)
      ⊢ bigSep Finset.univ (G' m) := by
  rw [bigSep_sep', bigSep_sep', bigSep_sep', ← bigSep_univ_prod (fun ck : Dev nD × Cell => iprop(∃ κ : ℕ, cellInv ER (Rd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok, Hz⟩
  ihave HK := (BI.bigSep_exists_pi Finset.univ (fun (ck : Dev nD × Cell) (κ : ℕ) => (cellInv ER (Rd m) κ (kcell ck) : sProp 𝕄))) $$ HI
  icases HK with ⟨%K, #HI⟩
  iapply (bigSep_with_persistent (R := records m K) (Φ := fun c => linear c) fun c _ => show iprop(records m K ∗ linear c) ⊢ G' m c from by
    unfold G'; iintro H; iexists K; iexact H)
  isplitr
  · unfold records; isplitl; · iexact HI
    iexact HR
  iapply (deal (F := F))
  isplitl [Hat]; · iexact Hat
  isplitl [Htok] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What a device owes when it starts. -/
abbrev O₀ (d : Dev nD) : CellTallies nD τ sig Unit := owe0 d sends0

theorem bar_eq_iff {a b : Dev nD} : barCell a = barCell b ↔ a = b := ⟨fun h => congrArg Prod.fst (kcell_injective h), fun h => h ▸ rfl⟩
theorem r_ne_bar (a b : Dev nD) (f : Fin 4) (s : Fin 7) : barCell a ≠ rCell b f s := fun h => by
  have := congrArg Prod.snd (kcell_injective h); cases this

theorem owe_bar (d c : Dev nD) (l : List (Fin 4 × Fin 7)) : owe d l (barCell c) () = 0 :=
  Nat.eq_zero_of_not_pos fun h => by obtain ⟨p, -, e⟩ := owe_pos h; exact r_ne_bar _ _ _ _ e

theorem owe_recv (d c : Dev nD) (f : Fin 4) (s : Fin 7) (l : List (Fin 4 × Fin 7)) :
    owe d l (rCell c f s) () = if d = src f c then l.count (f, s) * N s else 0 := by
  induction l with
  | nil => unfold owe; rw [List.count_nil, Nat.zero_mul, ite_self]; rfl
  | cons p l ih =>
    unfold owe
    rw [Pi.add_apply, Finsupp.add_apply, tallyAt_apply, ih]
    by_cases hp : p = (f, s)
    · subst hp
      rw [List.count_cons_self, Nat.add_mul, Nat.one_mul]
      by_cases h : d = src f c
      · rw [if_pos h, if_pos h, if_pos ⟨by rw [h, dst_src], rfl⟩]
      · rw [if_neg h, if_neg h, if_neg]
        rintro ⟨h', -⟩
        have h2 := congrArg Prod.fst (kcell_injective h')
        exact h (by rw [← src_dst f d]; exact congrArg (src f) h2.symm)
    · rw [List.count_cons_of_ne hp, if_neg (c := _ ∧ _), Nat.add_zero]
      rintro ⟨h', -⟩
      have h2 : (some (true, f, s) : Cell) = some (true, p.1, p.2) := congrArg Prod.snd (kcell_injective h')
      exact hp (congrArg Prod.snd (Option.some.inj h2)).symm

theorem owed_bar (d c : Dev nD) : O₀ d (barCell c) () = (if d = prv c then 1 else 0) + (if d = nxt c then 1 else 0) := by
  show owe0 d sends0 (barCell c) () = _
  unfold owe0
  rw [Pi.add_apply, Finsupp.add_apply, Pi.add_apply, Finsupp.add_apply, owe_bar, tallyAt_apply, tallyAt_apply, Nat.zero_add]
  congr 1
  · by_cases h : d = prv c
    · rw [if_pos h, if_pos ⟨by rw [h, nxt_prv], rfl⟩]
    · rw [if_neg h, if_neg fun h' => h (by rw [bar_eq_iff.mp h'.1, prv_nxt])]
  · by_cases h : d = nxt c
    · rw [if_pos h, if_pos ⟨by rw [h, prv_nxt], rfl⟩]
    · rw [if_neg h, if_neg fun h' => h (by rw [bar_eq_iff.mp h'.1, nxt_prv])]

theorem once : ∀ (f : Fin 4) (s : Fin 7), sends0.count (f, s) = 1 := by decide

theorem owed_recv (d c : Dev nD) (f : Fin 4) (s : Fin 7) : O₀ d (rCell c f s) () = if d = src f c then N s else 0 := by
  show owe0 d sends0 (rCell c f s) () = _
  unfold owe0
  rw [Pi.add_apply, Finsupp.add_apply, Pi.add_apply, Finsupp.add_apply, owe_recv, tallyAt_ne_cell (r_ne_bar _ _ _ _).symm, tallyAt_ne_cell (r_ne_bar _ _ _ _).symm,
    Finsupp.zero_apply, Nat.add_zero, Nat.add_zero, once, Nat.one_mul]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (f : Fin 4) (s : Fin 7) :
    tallyOn (rCell c f s) (launchCredit (Pipeline.owing O₀) 0 (rCell c f s)) = (tallyAt (rCell c f s) () (N s) : CellTallies nD τ sig Unit) := by
  unfold tallyAt; refine congrArg _ (Finsupp.ext fun u => ?_); cases u
  rw [Pipeline.launchCredit_owing, Finsupp.single_eq_same, Finset.sum_congr rfl fun d _ => owed_recv d c f s,
    Finset.sum_ite_eq' Finset.univ (src f c) fun _ => N s, if_pos (Finset.mem_univ _)]

/-- What the others owe device `c`'s barrier and arrivals. -/
theorem creds (c : Dev nD) :
    (Pipeline.launchCred O₀ c : sProp 𝕄) ⊢ iprop(cred (tallyAt (barCell c) () 2)
      ∗ bigSep Finset.univ fun f : Fin 4 => bigSep Finset.univ fun s : Fin 7 => cred (tallyAt (rCell c f s) () (N s))) := by
  unfold Pipeline.launchCred
  refine (bigSep_subset (Finset.subset_univ (Finset.univ.map ⟨csem, csem_injective⟩))).trans ?_
  rw [bigSep_map, sepCells]
  simp only [← launch_bar, ← launch_recv]
  show iprop(cred (tallyOn (barCell c) (launchCredit (Pipeline.owing O₀) 0 (barCell c))) ∗ _
    ∗ bigSep Finset.univ fun f : Fin 4 => bigSep Finset.univ fun s : Fin 7 => cred (tallyOn (rCell c f s) (launchCredit (Pipeline.owing O₀) 0 (rCell c f s)))) ⊢ _
  iintro ⟨Hb, -, Hr⟩
  isplitl [Hb] <;> iassumption

/-- The wait on a staging copy is allowed. -/
theorem mayWait_stage (c : Dev nD) (q : DmaSem sig) (h : ∀ k : Bool × Fin 4 × Fin 7, csem (some k) ≠ .dma q) (O : CellTallies nD τ sig Unit) (hO : O = O₀ c ∨ O = 0) :
    (levAts L lv : sProp 𝕄) ⊢ MayWait (c : Thread nD τ) (.dma q) () O := by
  rcases hO with rfl | rfl
  · have hp {g : GSem nD τ sig} {u : Unit} (hg : 0 < O₀ c g u) : (∃ d, g = barCell d) ∨ ∃ d f s, g = rCell d f s := by
      rw [show O₀ c g u = owe c sends0 g u + tallyAt (barCell (nxt c)) () 1 g u + tallyAt (barCell (prv c)) () 1 g u from rfl, tallyAt_apply, tallyAt_apply] at hg
      by_cases h1 : g = barCell (nxt c)
      · exact Or.inl ⟨_, h1⟩
      by_cases h2 : g = barCell (prv c)
      · exact Or.inl ⟨_, h2⟩
      rw [if_neg fun e => h1 e.1, if_neg fun e => h2 e.1] at hg
      obtain ⟨p, -, e⟩ := owe_pos (c := c) (l := sends0) (g := g) (u := u) hg
      exact Or.inr ⟨_, _, _, e⟩
    refine MayOwe.of_cut (L := L) (lev := lv) 0 (fun p hp => by rw [Finset.mem_singleton.mp hp, L_tc]; exact Finset.mem_singleton_self _)
      (fun g u hg => by rcases hp hg with ⟨d, rfl⟩ | ⟨d, f, s, rfl⟩ <;> (rw [L_tc]; exact Finset.mem_singleton_self _))
      (fun p hp => by rw [Finset.mem_singleton.mp hp]; exact le_of_eq (lv_dma c q h))
      (fun g u hg => by
        rcases hp hg with ⟨d, rfl⟩ | ⟨d, f, s, rfl⟩
        · rw [lv_bar]; decide
        · rw [lv_r]; exact Nat.succ_pos _)
  · rw [MayWait_zero]; iintro -; iempintro

end Cert.KernelIdeal.Ring
-- ==== Proof.FlowEq.lean ====
module

public import proofs.«01_k».proof.Proof.Flow

/-! The printed body is the sequence of steps of `Flow`. -/

@[expose] public section

noncomputable section

namespace Cert.KernelIdeal.Ring

open Idealize.ShloMosaic Idealize.SL.Sem Cert.KernelIdeal Cert.KernelIdeal.Gen

variable {F : FTy → Type} [FloatOps F]

set_option maxRecDepth 1000000 in
set_option maxHeartbeats 0 in
/-- The body the program prints is `body`. -/
theorem body_eq (sx sw : Memref sig .tc .smem S1 .f32) (hx : sx.IsWhole) (hw : sw.IsWhole) :
    cc0_body (F := F) (Memref.whole main_arg0) (Memref.isWhole_whole _) (Memref.whole main_arg1) (Memref.isWhole_whole _) sx hx sw hw (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13
      = body sx sw := by
  rfl

end Cert.KernelIdeal.Ring
-- ==== Proof.Launch.lean ====
module

public import proofs.«01_k».proof.Proof.Deal
public import proofs.«01_k».proof.Proof.FlowEq
public import Idealize.ShloMosaic.Lib.Quiescent
public import Idealize.ShloMosaic.Lib.Pipeline.CollectiveSegs

/-! The launch: what the pipeline is given, and the run of the whole program. -/

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

local notation "𝕄" => MT nD τ sig Unit (Elt F) ℕ UU ℕ

variable (m : (ℓ : Loc nD τ sig) → Buf (Elt F) ℓ) (ρ : Dev nD → PrngReg)

/-! ## The pipeline's proof data -/

/-- The scale of `x` on device `c`. -/
def scx (c : Dev nD) : Elt F .f32 := wordOf (Memref.whole cc0_stg0_0) (iblk m c 0 t0_0)
/-- The scale of `w` on device `c`. -/
def scw (c : Dev nD) : Elt F .f32 := wordOf (Memref.whole cc0_stg1_0) (iblk m c 1 t0_0)

/-- What device `c` starts with besides its scratch buffers. -/
def start (c : Dev nD) : sProp 𝕄 :=
  iprop(G' m c ∗ levAts L lv
    ∗ (cred (tallyAt (barCell c) () 2) ∗ bigSep Finset.univ fun f : Fin 4 => bigSep Finset.univ fun s : Fin 7 => cred (tallyAt (rCell c f s) () (N s)))
    ∗ hbmIn m c ∗ bigSep Finset.univ fun f : Fin 4 => any c (vH f))
/-- Before the body. -/
def Φ₀ (c : Dev nD) : sProp 𝕄 := iprop(start m c ∗ scrBlks c)
/-- After the body. -/
def Φ₁ (c : Dev nD) : sProp 𝕄 :=
  iprop(scrBlks c ∗ hbmIn m c ∗ (bigSep Finset.univ fun f : Fin 4 => blk c (vH f) (res m c (scx m c) (scw m c) f))
    ∗ ownZero c ∗ hopZero c ∗ semVal (barCell c) 0)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (iblk m c 0 t0_0) ∗ stg c cc0_stg1_0 (iblk m c 1 t0_0))

/-- The credits and the positions of the arrivals, joined. -/
theorem todoR_intro (c : Dev nD) :
    iprop((bigSep Finset.univ fun f : Fin 4 => bigSep Finset.univ fun s : Fin 7 => cred (tallyAt (rCell c f s) () (N s)))
        ∗ bigSep Finset.univ fun f : Fin 4 => bigSep Finset.univ fun s : Fin 7 => atPos ER (rCell c f s) 0 ∅ 0)
      ⊢ (bigSep Finset.univ fun f : Fin 4 => bigSep Finset.univ fun s : Fin 7 => todoR c f s : sProp 𝕄) := by
  unfold todoR
  simp only [bigSep_sep']
  iintro H; iexact H

set_option maxRecDepth 8000 in
theorem before_0 (c : Dev nD) (d) : (dats m ρ 0 c).before (0 : Fin 2) t0_0 d = iblk m c 0 t0_0 := by
  unfold Dat.before; rw [if_pos (fetch0_0 t0_0)]; rfl
set_option maxRecDepth 8000 in
theorem before_1 (c : Dev nD) (d) : (dats m ρ 0 c).before (1 : Fin 2) t0_0 d = iblk m c 1 t0_0 := by
  unfold Dat.before; rw [if_pos (fetch0_1 t0_0)]; rfl

/-- The device id is the device's. -/
theorem WP_device (c : Dev nD) (k : Dev nD → Prog (TpuEff nD τ sig (Elt F) Λ₀ .tc) PUnit.{1}) (Q : PUnit.{1} → sProp 𝕄) :
    WP c (do let d ← Prog.lift .deviceId; k d) Q = WP c (k c) Q := by
  simp only [Prog.lift, Prog.bind_op, Prog.bind_ret, wp_deviceId]

set_option maxRecDepth 8000 in
set_option maxHeartbeats 1000000 in
/-- The body, from what the pipeline gives it to what the pipeline takes back. -/
theorem sound_body (c : Dev nD) :
    bodyPre m ρ c ⊢ WP c (body (Memref.whole cc0_stg0_0) (Memref.whole cc0_stg1_0)) (fun _ => bodyPost m ρ c) := by
  unfold body
  rw [WP_device]
  unfold bodyPre Φ₀ start G' linear
  simp only [before_0, before_1]
  unfold Dat.owesAt Pipeline.owesWithin
  rw [show (dats m ρ 0 c).owed t0_0.castSucc = O₀ c from rfl]
  iintro ⟨⟨⟨⟨%K, #HR, Hz, ⟨Hat, Htp, Htn⟩, HS, HA⟩, #Hlev, ⟨Hcb, Hcr⟩, Hin, Hout⟩, Hscr⟩, ⟨%W, %hW, HO⟩, ⟨%d0, %g0, %hg0, Hx⟩, ⟨%d1, %g1, %hg1, Hw⟩⟩
  subst hg0 hg1
  ihave HRv := (todoR_intro (F := F) c) $$ [Hcr HA]
  · isplitl [Hcr] <;> iassumption
  iapply (run_blk m K c (Memref.whole cc0_stg0_0) (Memref.whole cc0_stg1_0) (iblk m c 0 t0_0) (iblk m c 1 t0_0) W)
    $$ [] Hscr Hin Hout Hz [Hcb Hat Htp Htn] [HS HRv] Hx Hw HO
  · unfold ctx; isplitr; · iexact HR
    iexact Hlev
  · unfold barTodo
    isplitl [Hcb]; · iexact Hcb
    isplitl [Hat]; · iexact Hat
    isplitl [Htp] <;> iassumption
  · unfold hopTodo; isplitl [HS] <;> iassumption
  unfold runEnd bodyPost Φ₁ Dat.owesAt Pipeline.owesWithin owing
  rw [show (dats m ρ 0 c).owed t0_0.succ = 0 from rfl]
  iintro ⟨H1, H2, H3, H4, H5, H6, Hx, Hw, ⟨%W', HO⟩⟩
  isplitl [H1 H2 H3 H4 H5 H6]
  · isplitl [H1]; · iexact H1
    isplitl [H2]; · iexact H2
    isplitl [H3]; · iexact H3
    isplitl [H4]; · iexact H4
    isplitl [H5] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hw

theorem sound_prog (c : Dev nD) (p : Prog (TpuEff nD τ sig (Elt F) Λ₀ .tc) PUnit.{1}) (hp : p = body (Memref.whole cc0_stg0_0) (Memref.whole cc0_stg1_0)) :
    bodyPre m ρ c ⊢ WP c p (fun _ => bodyPost m ρ c) := hp ▸ sound_body m ρ c

theorem slot_0 : cfg0.slots t0_0 (0 : Fin 2) = (0 : Fin 1) := rfl
theorem slot_1 : cfg0.slots t0_0 (1 : Fin 2) = (0 : Fin 1) := rfl

/-- What the pipeline runs at its one point is the printed body. -/
theorem prog_eq : defs₀ (F := F) Proc.tc 0 (t0_0, cfg0.slots t0_0) = body (Memref.whole cc0_stg0_0) (Memref.whole cc0_stg1_0) := by
  rw [← body_eq (F := F) (Memref.whole cc0_stg0_0) (Memref.whole cc0_stg1_0) (Memref.isWhole_whole _) (Memref.isWhole_whole _)]
  rfl

set_option maxRecDepth 8000 in
/-- The pipeline's obligation of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  rw [show (dats m ρ 0 c).Φ t0_0.castSucc = Φ₀ m c from rfl, show (dats m ρ 0 c).Φ t0_0.succ = Φ₁ m c from rfl,
    show (dats m ρ 0 c).after (0 : Fin 2) t0_0 = iblk m c 0 t0_0 from rfl, show (dats m ρ 0 c).after (1 : Fin 2) t0_0 = iblk m c 1 t0_0 from rfl]
  have h := sound_body m ρ c
  unfold bodyPre bodyPost at h
  have e := prog_eq (F := F)
  generalize body (F := F) (Memref.whole cc0_stg0_0) (Memref.whole cc0_stg1_0) = p at h e
  subst e
  refine BI.Entails.trans (Q := iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))) (BI.Entails.refl _) (h.trans (Entails.of_eq ?_))
  congr 1

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq, x_cut, w_cut]
  iintro ⟨⟨Hx, Hw, Ho⟩, Hlev, Hcr, -, HG⟩
  ihave Hc := (creds (F := F) c) $$ Hcr
  ihave Ho := (o_cut c _) $$ Ho
  imodintro
  unfold start hbmIn
  isplitl
  · isplitl [HG]; · iexact HG
    isplitl [Hlev]; · iexact Hlev
    isplitl [Hc]; · iexact Hc
    isplitl [Hx Hw]
    · isplitl [Hx] <;> iassumption
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_split c) $$ Hr

/-- What device `c` ends with: its barrier at zero, `x` and `w` as they were, and the result. -/
def Y (c : Dev nD) : sProp 𝕄 :=
  iprop(unscopedSems0 c ∗ (((c : Thread nD τ).loc main_arg0) ↦{fullShare} m ((c : Thread nD τ).loc main_arg0))
    ∗ (((c : Thread nD τ).loc main_arg1) ↦{fullShare} m ((c : Thread nD τ).loc main_arg1))
    ∗ ∃ g : Buf (Elt F) ((c : Thread nD τ).loc main_v1), ⌜∀ f, (vH f).read (Elt F) g = res m c (scx m c) (scw m c) f⌝ ∗ (((c : Thread nD τ).loc main_v1) ↦{fullShare} g))

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, ownSems0_eq, sepHops]
  unfold Φ₁ Y hbmIn hopZero
  rw [unscopedSems0_eq, x_cut, w_cut]
  iintro ⟨Hs, ⟨Hx, Hw⟩, Ho, Hz, Hh, Hb⟩
  isplitl [Hb Hx Hw Ho]
  · isplitl [Hb]; · iexact Hb
    isplitl [Hx]; · iexact Hx
    isplitl [Hw]; · iexact Hw
    iapply (o_join c fun f => res m c (scx m c) (scw m c) f) $$ Ho
  isplitl [Hz Hh]
  · isplitl [Hz] <;> iassumption
  iapply (scr_join c) $$ Hs

theorem stage_other : ∀ (w : Fin 2) (s : Fin (cfg0.spec w).nbuf) (k : Bool × Fin 4 × Fin 7), csem (some k) ≠ .dma ((cfg0.spec w).sem s) := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_other w s) _ (by
      rcases t with ⟨_ | _, ht⟩
      · exact Or.inl rfl
      · exact Or.inr rfl)

/-! ## The run -/

/-- What every device's memory holds at the end. -/
def QC (s : MemSt nD τ sig (Elt F)) : Prop := ∀ c : Dev nD,
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3))
  ∧ ∀ f, (vH f).read (Elt F) (s.mem ((c : Thread nD τ).loc main_v1)) = res m c (scx m c) (scw m c) f

set_option maxRecDepth 8000 in
/-- For any float values, from any memory with every counter at zero: every weakly fair execution of @main on the eight
devices terminates, with the argument arrays unchanged, the result's columns computed, and every counter at zero. -/
theorem run_main : θ_run defs (onTc (τ := τ) (main (F := F))) (s₀ m ρ) (fun r => QC m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m ρ) (hout := phi1_exit m ρ)
    (QY := fun c s => (s.mem ((c : Thread nD τ).loc main_arg0) = m ((c : Thread nD τ).loc main_arg0)
        ∧ s.mem ((c : Thread nD τ).loc main_arg1) = m ((c : Thread nD τ).loc main_arg1)
        ∧ ∀ f, (vH f).read (Elt F) (s.mem ((c : Thread nD τ).loc main_v1)) = res m c (scx m c) (scw m c) f)
      ∧ ∀ sm : SemLoc sig, sm.isScoped .tc = false → s.sem ((c.tc : Thread nD τ), sm) = 0)
    (hY := fun c s' => by
      unfold Y
      iintro ⟨⟨Hu, Hx, Hw, ⟨%g, %hg, Ho⟩⟩, -, HSI⟩
      icombine HSI Hx gives %hx
      icombine HSI Hw gives %hw
      icombine HSI Ho gives %ho
      imod (Pipeline.unscopedSems0_read (X := unscopedSems0 c) (c := c) fupd_intro s') $$ [Hu HSI] with ⟨%hs, HSI⟩
      · isplitl [Hu] <;> iassumption
      imodintro
      isplitr
      · ipureintro
        refine ⟨⟨Buf.eq_of_forall_mem_univ hx, Buf.eq_of_forall_mem_univ hw, fun f => ?_⟩, hs⟩
        rw [Buf.eq_of_forall_mem_univ ho]; exact hg f
      iexact HSI)
    (hQ := fun s h hs => ⟨fun c => ⟨⟨(h c).2.2.1.1, (h c).2.2.1.2.1,
        ((h c).1 0).trans ((dats m ρ 0 c).arrAt_in (0 : Fin 2) rfl _), ((h c).1 1).trans ((dats m ρ 0 c).arrAt_in (1 : Fin 2) rfl _)⟩, (h c).2.2.1.2.2⟩,
      sem_eq_zero hs fun c => (h c).2.2.2⟩)

end Cert.KernelIdeal.Ring
-- ==== Proof.Same.lean ====
module

public import proofs.«01_k».proof.Proof.Gen.Kernel
public import proofs.«01_k».proof.Proof.Gen.KernelIdeal

/-! The kernel as compiled and the kernel read over the extended reals are printed as one text. -/

@[expose] public section

namespace Cert

open Idealize.ShloMosaic

variable {F : FTy → Type} [FloatOps F]

set_option maxHeartbeats 2000000 in
set_option maxRecDepth 8000 in
/-- The two printings of the kernel's body are one program. -/
theorem body_same : Kernel.cc0_body (F := F) = KernelIdeal.cc0_body (F := F) := rfl

set_option maxRecDepth 8000 in
/-- So are their tables of bodies. -/
theorem defs₀_same : Kernel.defs₀ (F := F) = KernelIdeal.defs₀ (F := F) := by
  unfold Kernel.defs₀ KernelIdeal.defs₀
  refine congrArg Defs.onTc ?_
  funext l a
  match l, a with
  | 0, (t, s) =>
    show Kernel.cc0_body .. = KernelIdeal.cc0_body ..
    rw [body_same]
  | ⟨n + 1, h⟩, _ => exact absurd h (by omega)

/-- And the tables with the launch around them. -/
theorem defs_same : Kernel.defs (F := F) = KernelIdeal.defs (F := F) := by
  unfold Kernel.defs KernelIdeal.defs
  rw [defs₀_same]; rfl

end Cert
-- ==== Proof.Frames.lean ====
module

public import proofs.«01_k».proof.Defs
public import proofs.«01_k».proof.Proof.Launch
public import proofs.«01_k».proof.Proof.Same

/-! The two frame claims of the kernel, read off the one run proved for any float values. -/

@[expose] public section

namespace Cert.KernelIdeal.Ring

open Idealize.ShloMosaic Idealize.SL.Sem Idealize.ShloMosaic.TcCoe
open Cert.KernelIdeal Cert.KernelIdeal.Gen

variable {F : FTy → Type} [FloatOps F]

/-- For any float values the program runs, keeps its arguments and leaves every counter at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run_main m ρ)

/-- The same program read over the extended reals runs. -/
theorem frame_ideal : Cert.quiescent_KernelIdeal := fun m ρ _ => frame_any (F := Ideal) m ρ

/-- The program as compiled runs: its text is the same. -/
theorem frame_kernel : Cert.quiescent_Kernel := fun m ρ _ => by
  rw [Cert.defs_same]
  exact frame_any (F := Bits) m ρ

end Cert.KernelIdeal.Ring
-- ==== Proof.Pays.lean ====
module

public import proofs.«01_k».proof.Proof.Proto
public import Idealize.ShloMosaic.Lib.ValueIdx
public import Idealize.ShloMosaic.Lib.IdealHost
public import Idealize.ShloMosaic.Lib.KernelVsHost
public import Idealize.ShloMosaic.Lib.StackMember
public import Idealize.ShloMosaic.Lib.Pipeline.Value

/-! What each step of a flow computes over the extended reals: one more block product added to the sum that arrived,
and at the end the scales and the activation. -/

@[expose] public section

noncomputable section

namespace Cert.KernelIdeal.Ring

open Idealize.ShloMosaic Idealize.ShloMosaic.ValueIdx Idealize.ShloMosaic.StackMember Idealize.ShloMosaic.TcCoe
open Cert.KernelIdeal Cert.KernelIdeal.Gen

/-- Entry (i, j) of a block product. -/
def dot (x w : S512x512.Idx → EReal) (i j : Fin 512) : EReal := ∑ k : Fin 512, x (ix2 i k) * w (ix2 k j)

/-- A slot of a flow as a block. -/
def down (a : S1x1x512x512.Idx → EReal) : S512x512.Idx → EReal := shapeCast S512x512 a shapeCasts_S1x1x512x512_S512x512

theorem down_up (v : S512x512.Idx → EReal) : down (shapeCast S1x1x512x512 v shapeCasts_S512x512_S1x1x512x512) = v :=
  shapeCast_shapeCast v _ _

/-- The matrix unit's product into zero. -/
theorem mm_apply {φ₁ φ₂ : FTy} (x : FVec Ideal S512x512 φ₁) (w : FVec Ideal S512x512 φ₂) (i j : Fin 512) :
    matmul dot_S512x512_S512x512_S512x512_1_0_0_1_n_n none x w (constant S512x512 .f32 0x00000000#32) (ix2 i j) = dot x w i j := by
  rw [matmul_zero_eq_dotGeneral]
  exact dotGeneral_plain_apply (m := 512) (n := 512) (k := 512) none x w i j

/-- A block of x as it is kept: the same values. -/
theorem pay2_eq (v : Vec Ideal S1x512x512 .f32) : k0_pay2 v = shapeCast S512x512 v shapeCasts_S1x512x512_S512x512 := by
  unfold k0_pay2
  simp only [shapeCast_self]
  rfl

/-- A block of w as it is kept: the same values. -/
theorem pay1_eq (v : Vec Ideal S1x512x512 .f32) : k0_pay1 v = shapeCast S512x512 v shapeCasts_S1x512x512_S512x512 := by
  unfold k0_pay1
  simp only [shapeCast_self]
  rfl

/-- The first hop carries one product. -/
theorem pay3_apply (x w : Vec Ideal S512x512 .bf16) (i j : Fin 512) : down (k0_pay3 x w) (ix2 i j) = dot x w i j :=
  (congrFun (down_up _) _).trans (mm_apply (φ₁ := .bf16) (φ₂ := .bf16) x w i j)

/-- The second adds a product to what arrived. -/
theorem pay12_apply (x w : Vec Ideal S512x512 .bf16) (a : Vec Ideal S1x1x512x512 .fp8e4m3) (i j : Fin 512) :
    down (k0_pay12 x w a) (ix2 i j) = down a (ix2 i j) + dot x w i j :=
  (congrFun (down_up _) _).trans (congrArg (down a (ix2 i j) + ·) (mm_apply (φ₁ := .bf16) (φ₂ := .bf16) x w i j))

/-- So does the third. -/
theorem pay25_apply (x w : Vec Ideal S512x512 .bf16) (a : Vec Ideal S1x1x512x512 .fp8e4m3) (i j : Fin 512) :
    down (k0_pay25 x w a) (ix2 i j) = down a (ix2 i j) + dot x w i j :=
  (congrFun (down_up _) _).trans (congrArg (down a (ix2 i j) + ·) (mm_apply (φ₁ := .bf16) (φ₂ := .bf16) x w i j))

/-- So do the others. -/
theorem pay28_apply (x w : Vec Ideal S512x512 .bf16) (a : Vec Ideal S1x1x512x512 .bf16) (i j : Fin 512) :
    down (k0_pay28 x w a) (ix2 i j) = down a (ix2 i j) + dot x w i j :=
  (congrFun (down_up _) _).trans (congrArg (down a (ix2 i j) + ·) (mm_apply (φ₁ := .bf16) (φ₂ := .bf16) x w i j))

/-- The last sum. -/
theorem pay63_apply (x w : Vec Ideal S512x512 .bf16) (a : Vec Ideal S1x1x512x512 .bf16) (i j : Fin 512) :
    k0_pay63 x w a (ix2 i j) = down a (ix2 i j) + dot x w i j :=
  congrArg (down a (ix2 i j) + ·) (mm_apply (φ₁ := .bf16) (φ₂ := .bf16) x w i j)

/-- The activation: y / (1 + e^(-y)). -/
def silu (y : EReal) : EReal := Ideal.div y (1 + Ideal.exp (-y))

/-- The exponential is nowhere negative. -/
theorem exp_nonneg (x : EReal) : 0 ≤ Ideal.exp x := by
  induction x using EReal.rec with
  | bot => simp
  | coe r => simpa using EReal.coe_nonneg.mpr (Real.exp_pos r).le
  | top => simp

theorem denom_ne (y : EReal) : 1 + Ideal.exp (-y) ≠ 0 := by
  intro e
  have h : (1 : EReal) ≤ 1 + Ideal.exp (-y) := le_add_of_nonneg_right (exp_nonneg _)
  rw [e] at h
  exact absurd h (by simp)

/-- y times the logistic of y is the activation. -/
theorem mul_logistic (y : EReal) : y * Ideal.logistic y = silu y := Ideal.mul_one_div (denom_ne y)

/-- The result: the sum times both scales, through the activation. -/
theorem pay64_apply (v : FVec Ideal S512x512 .f32) (p q : EReal) (i : S512x512.Idx) :
    k0_pay64 v (p : Elt Ideal .f32) (q : Elt Ideal .f32) i = silu (v i * (p * q)) := by
  unfold k0_pay64
  rw [shapeCast_self]
  exact mul_logistic (v i * (p * q))

end Cert.KernelIdeal.Ring
-- ==== Proof.Ref.lean ====
module

public import proofs.«01_k».proof.Defs
public import proofs.«01_k».proof.Proof.Pays
public import proofs.«01_k».proof.Proof.Gen.ReferenceIdeal.Run

/-! The reference's run: its frame, and its result at an index. -/

@[expose] public section

noncomputable section

namespace Cert.ReferenceIdeal.Ref

open Idealize.ShloMosaic Idealize.SL.Sem Idealize.ShloMosaic.ValueIdx Idealize.ShloMosaic.StackMember
open Cert.ReferenceIdeal Cert.ReferenceIdeal.Gen Cert.KernelIdeal.Ring

/-- The reference declares no semaphore, so no counter differs from zero. -/
theorem no_sem (f : (Thread nD τ × SemLoc sig) → Int) : f = fun _ => 0 := by
  funext x
  obtain ⟨_, s⟩ := x
  cases s with
  | reg s => exact s.elim0
  | dma s => exact s.elim0

/-- The reference runs, keeps its arguments and leaves every counter at zero. -/
theorem frame_ref : Cert.quiescent_ReferenceIdeal := fun m ρ _ =>
  (θ_run (defs (F := Ideal)) _ _).mono (fun _ h => ⟨fun c => (h c).2, no_sem _⟩) (Value.run (F := Ideal) m ρ)

/-- The whole product at an index. -/
def prod (X : S4096x4096.Idx → EReal) (W : S4096x2048.Idx → EReal) (i : Fin 4096) (j : Fin 2048) : EReal :=
  ∑ k : Fin 4096, X (ix2 i k) * W (ix2 k j)

/-- The reference's result as a function of its arguments. -/
def out (X : S4096x4096.Idx → EReal) (W : S4096x2048.Idx → EReal) (p q : S1.Idx → EReal) : S4096x2048.Idx → EReal :=
  fun i => silu (prod X W (i 0) (i 1) * (p (ix1 0) * q (ix1 0)))

/-- The two scales' product laid over the array reads that product everywhere. -/
theorem scale_apply (v : S1.Idx → EReal) (i : S4096x2048.Idx) :
    broadcastInDim S4096x2048 ![0, 1] bcast_S1x1_S4096x2048_0_1 (broadcastInDim S1x1 ![1] bcast_S1_S1x1_1 v) i = v (ix1 0) := by
  refine (broadcastInDim_apply _ _ _ _ (ix2 0 0) ?_).trans (broadcastInDim_apply _ _ _ _ (ix1 0) ?_)
  · intro a; match a with
    | ⟨0, _⟩ => rfl
    | ⟨1, _⟩ => rfl
  · intro a; match a with
    | ⟨0, _⟩ => rfl

/-- The host's product at an index. -/
theorem prod_apply (X : FVec Ideal S4096x4096 .f32) (W : FVec Ideal S4096x2048 .f32) (i : S4096x2048.Idx) :
    Host.dotGeneral dot_S4096x4096_S4096x2048_S4096x2048_1_0_0_1_n_n none X W i = prod X W (i 0) (i 1) := by
  conv_lhs => rw [eq_ix2 i]
  exact dotGeneral_plain_apply (m := 4096) (n := 2048) (k := 4096) none X W (i 0) (i 1)

/-- The activation as the host computes it, at an index. -/
theorem act_apply (y : FVec Ideal S4096x2048 .f32) (i : S4096x2048.Idx) :
    Host.divf y (addf (broadcastInDim S4096x2048 ![] bcast_S_S4096x2048 (constant S_ .f32 0x3F800000#32)) (Host.exp (Host.negf y))) i
      = silu (y i) := by
  show Ideal.div (y i) (broadcastInDim S4096x2048 ![] bcast_S_S4096x2048 (constant (F := Ideal) S_ .f32 0x3F800000#32) i + Ideal.exp (-(y i))) = _
  rw [broadcastInDim_scalar_apply, constant_apply, Ideal.ofBits_one_f32]
  rfl

/-- The reference's run with its result. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun i => (act_apply _ i).trans (congrArg silu (by
    rw [mulf_apply, prod_apply, scale_apply]; rfl))), (h c).2⟩) (Value.run (F := Ideal) m ρ)

end Cert.ReferenceIdeal.Ref
-- ==== Proof.Value.lean ====
module

public import proofs.«01_k».proof.Proof.Launch
public import proofs.«01_k».proof.Proof.Ref
public import Idealize.ShloMosaic.Lib.Layout

/-! The kernel's result is the reference's: the eight products a flow adds up on its way round the ring are the eight
stretches of the one long sum. -/

@[expose] public section

noncomputable section

namespace Cert.KernelIdeal.Ring

open Idealize.ShloMosaic Idealize.SL.Sem Idealize.ShloMosaic.ValueIdx Idealize.ShloMosaic.TcCoe
open Cert.KernelIdeal Cert.KernelIdeal.Gen

/-! ## The long sum in eight stretches -/

/-- The product of the columns of X and the rows of W that device d holds, at an index of the whole result. -/
def stretch (X : Cert.ReferenceIdeal.S4096x4096.Idx → EReal) (W : Cert.ReferenceIdeal.S4096x2048.Idx → EReal)
    (i : Fin 4096) (j : Fin 2048) (d : Fin 8) : EReal :=
  ∑ k : Fin 512, X (ix2 i ⟨d.val * 512 + k.val, by omega⟩) * W (ix2 ⟨d.val * 512 + k.val, by omega⟩ j)

/-- The eight stretches add up to the whole. -/
theorem sum_stretch (X : Cert.ReferenceIdeal.S4096x4096.Idx → EReal) (W : Cert.ReferenceIdeal.S4096x2048.Idx → EReal)
    (i : Fin 4096) (j : Fin 2048) : ∑ d : Fin 8, stretch X W i j d = Cert.ReferenceIdeal.Ref.prod X W i j := by
  unfold stretch Cert.ReferenceIdeal.Ref.prod
  rw [← Fintype.sum_prod_type' (f := fun (d : Fin 8) (k : Fin 512) =>
    X (ix2 i ⟨d.val * 512 + k.val, by omega⟩) * W (ix2 ⟨d.val * 512 + k.val, by omega⟩ j))]
  refine Fintype.sum_equiv (finProdFinEquiv (m := 8) (n := 512)) _ _ fun p => ?_
  have h : (⟨p.1.val * 512 + p.2.val, by omega⟩ : Fin 4096) = finProdFinEquiv p := Fin.ext (by
    show p.1.val * 512 + p.2.val = (finProdFinEquiv p).val
    rw [finProdFinEquiv_apply_val]; omega)
  rw [h]

/-! ## What a device holds -/

variable (m : (ℓ : Loc nD τ sig) → Buf (Elt Ideal) ℓ)

/-- Undoing a leading axis of one. -/
theorem cast_up3 {e : EltTy} (v : Vec Ideal S512x512 e) : shapeCast S512x512 (up3 v) shapeCasts_S1x512x512_S512x512 = v := by
  funext i
  show v ((Shape.reshapeEquiv _).symm (Shape.reshapeEquiv _ i)) = v i
  rw [Equiv.symm_apply_apply]

/-- Rows r of x on device c, at an index. -/
theorem xv_apply (c : Dev nD) (r : Fin 8) (i k : Fin 512) :
    xv m c r (ix2 i k) = m ((c : Thread nD τ).loc main_arg0) (ix2 ⟨512 * ((c.val + r.val) % 8) + i.val, by omega⟩ k) := by
  have h : xv m c r = (xH c r).view.read (Elt Ideal) (m ((c : Thread nD τ).loc main_arg0)) :=
    (pay2_eq _).trans (cast_up3 (e := .f32) _)
  rw [h]
  show m ((c : Thread nD τ).loc main_arg0) ((xRect c r).emb (ix2 i k)) = _
  refine congrArg _ (funext fun a => Fin.ext ?_)
  rw [Rect.emb_apply]
  have ho := k0_off1_eq c r
  match a with
  | ⟨0, _⟩ =>
    have h0 := congrFun ho 0
    show k0_off1 c (BitVec.ofNat 32 r.val) 0 + 1 * i.val = 512 * ((c.val + r.val) % 8) + i.val
    rw [h0]; show 512 * ((c.val + r.val) % 8) + 1 * i.val = _; omega
  | ⟨1, _⟩ =>
    have h0 := congrFun ho 1
    show k0_off1 c (BitVec.ofNat 32 r.val) 1 + 1 * k.val = k.val
    rw [h0]; show 0 + 1 * k.val = _; omega

/-- Columns f of w on device c, at an index. -/
theorem wv_apply (c : Dev nD) (f : Fin 4) (k j : Fin 512) :
    wv m c f (ix2 k j) = m ((c : Thread nD τ).loc main_arg1) (ix2 k ⟨512 * f.val + j.val, by omega⟩) := by
  have h : wv m c f = (wH f).view.read (Elt Ideal) (m ((c : Thread nD τ).loc main_arg1)) :=
    (pay1_eq _).trans (cast_up3 (e := .f32) _)
  rw [h]
  show m ((c : Thread nD τ).loc main_arg1) ((colRect f).emb (ix2 k j)) = _
  refine congrArg _ (funext fun a => Fin.ext ?_)
  rw [Rect.emb_apply]
  match a with
  | ⟨0, _⟩ => show 0 + 1 * k.val = k.val; omega
  | ⟨1, _⟩ => show 512 * f.val + 1 * j.val = 512 * f.val + j.val; omega

/-! ## A flow's sums -/

variable (X : Cert.ReferenceIdeal.S4096x4096.Idx → EReal) (W : Cert.ReferenceIdeal.S4096x2048.Idx → EReal)

/-- Each device holds its columns of X and its rows of W. -/
structure Holds : Prop where
  x : ∀ c : Dev nD, m ((c : Thread nD τ).loc main_arg0) = Layout.block ⟨2, ![4096, 512]⟩ ⟨2, ![4096, 4096]⟩ 1 8 c X
  w : ∀ c : Dev nD, m ((c : Thread nD τ).loc main_arg1) = Layout.block ⟨2, ![512, 2048]⟩ ⟨2, ![4096, 2048]⟩ 0 8 c W

variable {m X W}

/-- The product of device d's rows b and its columns f is device d's stretch there. -/
theorem dot_stretch (H : Holds m X W) (d : Dev nD) (r : Fin 8) (b : Fin 8) (hb : (d.val + r.val) % 8 = b.val) (f : Fin 4) (i j : Fin 512) :
    dot (xv m d r) (wv m d f) i j = stretch X W ⟨512 * b.val + i.val, by omega⟩ ⟨512 * f.val + j.val, by omega⟩ d := by
  unfold dot stretch
  refine Finset.sum_congr rfl fun k _ => ?_
  rw [xv_apply, wv_apply, H.x, H.w]
  refine congrArg₂ (fun a b : EReal => a * b) ?_ ?_
  · show X _ = X _
    refine congrArg X (funext fun a => Fin.ext ?_)
    match a with
    | ⟨0, _⟩ => show 512 * ((d.val + r.val) % 8) + i.val = 512 * b.val + i.val; rw [hb]
    | ⟨1, _⟩ => rfl
  · show W _ = W _
    refine congrArg W (funext fun a => Fin.ext ?_)
    match a with
    | ⟨0, _⟩ => rfl
    | ⟨1, _⟩ => rfl

/-- The device k places up the stream of flow f from device c. -/
def up (f : Fin 4) (c : Dev nD) : Nat → Dev nD
  | 0 => c
  | k + 1 => src f (up f c k)

/-- Up the stream: the rows a device multiplies at hop s are those of the device the sum will end on. -/
theorem up_row : ∀ (f : Fin 4) (c : Dev nD) (s : Fin 8), ((up f c (7 - s.val)).val + (row f s).val) % 8 = c.val := by decide

/-- The eight devices up the stream are all the devices. -/
theorem up_bij : ∀ (f : Fin 4) (c : Dev nD), Function.Bijective fun s : Fin 8 => up f c (7 - s.val) := by decide

theorem at_lt (c : Dev nD) (i : Fin 512) : 512 * c.val + i.val < 4096 := by
  have h : c.val < 8 := c.isLt
  omega

/-- What a flow brings to device c, with that device's own product, is the whole sum. -/
theorem flow_sum (H : Holds m X W) (c : Dev nD) (f : Fin 4) (i j : Fin 512) :
    k0_pay63 (xv m c (row f 7)) (wv m c f) (acc6 m (src f c) f) (ix2 i j)
      = Cert.ReferenceIdeal.Ref.prod X W ⟨512 * c.val + i.val, at_lt c i⟩ ⟨512 * f.val + j.val, by omega⟩ := by
  have e : ∀ s : Fin 8, dot (xv m (up f c (7 - s.val)) (row f s)) (wv m (up f c (7 - s.val)) f) i j
      = stretch X W ⟨512 * c.val + i.val, at_lt c i⟩ ⟨512 * f.val + j.val, by omega⟩ (up f c (7 - s.val)) :=
    fun s => dot_stretch H _ _ c (up_row f c s) f i j
  rw [← sum_stretch, ← Function.Bijective.sum_comp (up_bij f c), Fin.sum_univ_eight]
  rw [← e 0, ← e 1, ← e 2, ← e 3, ← e 4, ← e 5, ← e 6, ← e 7]
  rw [pay63_apply]
  unfold acc6; rw [pay28_apply]
  unfold acc5; rw [pay28_apply]
  unfold acc4; rw [pay28_apply]
  unfold acc3; rw [pay28_apply]
  unfold acc2; rw [pay25_apply]
  unfold acc1; rw [pay12_apply]
  unfold acc0; rw [pay3_apply]
  rfl

/-! ## The scales -/

theorem one_idx (a b : S1.Idx) : a = b := by
  funext k
  match k with
  | ⟨0, _⟩ =>
    have ha : (a 0).val < 1 := (a 0).isLt
    have hb : (b 0).val < 1 := (b 0).isLt
    exact Fin.ext (by show (a 0).val = (b 0).val; omega)

/-- The word read as the scale of x is the argument's one entry. -/
theorem scx_eq (c : Dev nD) : scx m c = m ((c : Thread nD τ).loc main_arg2) (ix1 0) := by
  exact congrArg (m ((c : Thread nD τ).loc main_arg2) : S1.Idx → EReal) (one_idx _ _)

/-- So is the other. -/
theorem scw_eq (c : Dev nD) : scw m c = m ((c : Thread nD τ).loc main_arg3) (ix1 0) := by
  exact congrArg (m ((c : Thread nD τ).loc main_arg3) : S1.Idx → EReal) (one_idx _ _)

/-! ## The whole result -/

/-- A device's result is its block of the reference's. -/
theorem result_eq (H : Holds m X W) (p q : Cert.ReferenceIdeal.S1.Idx → EReal) (c : Dev nD)
    (hp : m ((c : Thread nD τ).loc main_arg2) = p) (hq : m ((c : Thread nD τ).loc main_arg3) = q)
    (g : S512x2048.Idx → EReal) (hg : ∀ f, (vH f).read (Elt Ideal) g = res m c (scx m c) (scw m c) f) :
    g = Layout.block ⟨2, ![512, 2048]⟩ ⟨2, ![4096, 2048]⟩ 0 8 c (Cert.ReferenceIdeal.Ref.out X W p q) := by
  funext y
  have hy1 : (y 1).val < 2048 := (y 1).isLt
  have hy0 : (y 0).val < 512 := (y 0).isLt
  let f : Fin 4 := ⟨(y 1).val / 512, by omega⟩
  let i : Fin 512 := ⟨(y 0).val, hy0⟩
  let j : Fin 512 := ⟨(y 1).val % 512, by omega⟩
  have hv := congrFun (hg f) (ix2 i j)
  have hl : (vH f).read (Elt Ideal) g (ix2 i j) = g y := by
    show g ((colRect f).emb (ix2 i j)) = g y
    refine congrArg g (funext fun a => Fin.ext ?_)
    rw [Rect.emb_apply]
    match a with
    | ⟨0, _⟩ => show 0 + 1 * (y 0).val = (y 0).val; omega
    | ⟨1, _⟩ => show 512 * ((y 1).val / 512) + 1 * ((y 1).val % 512) = (y 1).val; omega
  rw [hl] at hv
  rw [hv]
  unfold res
  rw [pay64_apply, flow_sum H c f i j, scx_eq, scw_eq, hp, hq]
  show _ = silu (Cert.ReferenceIdeal.Ref.prod X W _ _ * _)
  refine congrArg (fun t => silu (t * _)) (congr (congrArg (Cert.ReferenceIdeal.Ref.prod X W) (Fin.ext ?_)) (Fin.ext ?_))
  · show 512 * c.val + (y 0).val = c.val * 512 + (y 0).val; omega
  · show 512 * ((y 1).val / 512) + (y 1).val % 512 = (y 1).val; omega

end Cert.KernelIdeal.Ring
-- ==== Proof.Algebra.lean ====
module

public import proofs.«01_k».proof.Proof.Value

/-! Kernel and reference compute one function over the extended reals. -/

@[expose] public section

namespace Cert.KernelIdeal.Ring

open Idealize.ShloMosaic Idealize.SL.Sem

/-- From memories that agree, both programs run, and each device ends with its block of the reference's result. -/
theorem algebra : Cert.algebraic_KernelIdeal_ReferenceIdeal := by
  intro m g m' g' _ ha
  refine ⟨Cert.ReferenceIdeal.Ref.out _ _ _ _, (θ_run (Cert.KernelIdeal.defs (F := Ideal)) _ _).mono (fun r h c => ?_) (run_main (F := Ideal) m g),
    (θ_run (Cert.ReferenceIdeal.defs (F := Ideal)) _ _).mono (fun r h => h 0) (Cert.ReferenceIdeal.Ref.run_ref m' g')⟩
  exact ⟨result_eq ⟨fun d => (ha d).1, fun d => (ha d).2.1⟩ _ _ c (ha c).2.2.1 (ha c).2.2.2 _ (h.1 c).2, (h.1 c).1⟩

end Cert.KernelIdeal.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Every claim: the three frames, the ideal program, and the equality with the reference. -/
theorem claim : Cert.Claim := ⟨Cert.Kernel.Gen.facts, Cert.KernelIdeal.Gen.facts, Cert.ReferenceIdeal.Gen.facts,
  Cert.KernelIdeal.Ring.frame_kernel, Cert.KernelIdeal.Ring.frame_ideal, Cert.ReferenceIdeal.Ref.frame_ref, trivial,
  Cert.KernelIdeal.Ring.algebra⟩

end Cert.Proof

end
